-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_experts_in_range [hPre_experts_in_range : Cert.Pre_experts_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_experts_in_range [hPre_experts_in_range : Cert.Pre_experts_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_experts_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_rule [hPre_finite_rule : Cert.Pre_finite_rule.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_rule.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13)) (m ((c.tc : Thread Cert.Kernel3Ideal.nD Cert.Kernel3Ideal.τ).loc Cert.Kernel3Ideal.main_arg14)) (m ((c.tc : Thread Cert.Kernel3Ideal.nD Cert.Kernel3Ideal.τ).loc Cert.Kernel3Ideal.main_arg15))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_rule [hPre_finite_rule : Cert.Pre_finite_rule.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_rule.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13)) (m ((c.tc : Thread Cert.Reference3Ideal.nD Cert.Reference3Ideal.τ).loc Cert.Reference3Ideal.main_arg14)) (m ((c.tc : Thread Cert.Reference3Ideal.nD Cert.Reference3Ideal.τ).loc Cert.Reference3Ideal.main_arg15))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_experts_in_range [hKernel2Ideal : Cert.Kernel2Ideal.Facts] [hPre_experts_in_range : Cert.Pre_experts_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_experts_in_range m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_experts_in_range [hReference2Ideal : Cert.Reference2Ideal.Facts] [hPre_experts_in_range : Cert.Pre_experts_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_experts_in_range m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15))
      ∧ r.2.sem = fun _ => 0)

def quiescent_Kernel3Ideal_pre_finite_rule [hKernel3Ideal : Cert.Kernel3Ideal.Facts] [hPre_finite_rule : Cert.Pre_finite_rule.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_rule m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15))
      ∧ r.2.sem = fun _ => 0)

def quiescent_Reference3Ideal_pre_finite_rule [hReference3Ideal : Cert.Reference3Ideal.Facts] [hPre_finite_rule : Cert.Pre_finite_rule.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_rule m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15))
      ∧ r.2.sem = fun _ => 0)

def preserves_Kernel_KernelIdeal : Prop :=
  IdealRules.named_const.Statement Cert.KernelIdeal.κ "scale" .f32 0x3E38AA3B#32 (((Real.log 256)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_experts_in_range [hKernel2Ideal : Cert.Kernel2Ideal.Facts] [hReference2Ideal : Cert.Reference2Ideal.Facts] [hPre_experts_in_range : Cert.Pre_experts_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_experts_in_range m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v82)) (v1 : (c : Dev Cert.Kernel2Ideal.nD) → Buf (Elt Ideal) ((c.tc : Thread Cert.Kernel2Ideal.nD Cert.Kernel2Ideal.τ).loc Cert.Kernel2Ideal.main_v85)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v82) = v0 c
          ∧ r.2.mem ((c.tc : Thread Cert.Kernel2Ideal.nD Cert.Kernel2Ideal.τ).loc Cert.Kernel2Ideal.main_v85) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v27) = v0 c
          ∧ r.2.mem ((c.tc : Thread Cert.Reference2Ideal.nD Cert.Reference2Ideal.τ).loc Cert.Reference2Ideal.main_v42) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite_rule [hKernel3Ideal : Cert.Kernel3Ideal.Facts] [hReference3Ideal : Cert.Reference3Ideal.Facts] [hPre_finite_rule : Cert.Pre_finite_rule.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_rule m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)) →
    ∃ (v0 : (c : Dev Cert.Kernel3Ideal.nD) → Buf (Elt Ideal) ((c.tc : Thread Cert.Kernel3Ideal.nD Cert.Kernel3Ideal.τ).loc Cert.Kernel3Ideal.main_v51_0)) (v1 : (c : Dev Cert.Kernel3Ideal.nD) → Buf (Elt Ideal) ((c.tc : Thread Cert.Kernel3Ideal.nD Cert.Kernel3Ideal.τ).loc Cert.Kernel3Ideal.main_v51_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v51_0) = v0 c
          ∧ r.2.mem ((c.tc : Thread Cert.Kernel3Ideal.nD Cert.Kernel3Ideal.τ).loc Cert.Kernel3Ideal.main_v51_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v79) = v0 c
          ∧ r.2.mem ((c.tc : Thread Cert.Reference3Ideal.nD Cert.Reference3Ideal.τ).loc Cert.Reference3Ideal.main_v80) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_scores : Cert.Pre_finite_scores.Facts) (hPre_experts_in_range : Cert.Pre_experts_in_range.Facts) (hPre_finite_rule : Cert.Pre_finite_rule.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Kernel2Ideal_pre_experts_in_range (hKernel2Ideal := hKernel2Ideal) (hPre_experts_in_range := hPre_experts_in_range)
    ∧ quiescent_Reference2Ideal (hReference2Ideal := hReference2Ideal)
    ∧ quiescent_Reference2Ideal_pre_experts_in_range (hReference2Ideal := hReference2Ideal) (hPre_experts_in_range := hPre_experts_in_range)
    ∧ quiescent_Kernel3 (hKernel3 := hKernel3)
    ∧ quiescent_Kernel3Ideal (hKernel3Ideal := hKernel3Ideal)
    ∧ quiescent_Kernel3Ideal_pre_finite_rule (hKernel3Ideal := hKernel3Ideal) (hPre_finite_rule := hPre_finite_rule)
    ∧ quiescent_Reference3Ideal (hReference3Ideal := hReference3Ideal)
    ∧ quiescent_Reference3Ideal_pre_finite_rule (hReference3Ideal := hReference3Ideal) (hPre_finite_rule := hPre_finite_rule)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal_pre_experts_in_range (hKernel2Ideal := hKernel2Ideal) (hReference2Ideal := hReference2Ideal) (hPre_experts_in_range := hPre_experts_in_range)
    ∧ preserves_Kernel3_Kernel3Ideal
    ∧ algebraic_Kernel3Ideal_Reference3Ideal_pre_finite_rule (hKernel3Ideal := hKernel3Ideal) (hReference3Ideal := hReference3Ideal) (hPre_finite_rule := hPre_finite_rule)
-- ==== Pre_experts_in_range.lean ====
abbrev S32768x1024 : Shape := ⟨2, ![32768, 1024]⟩
abbrev S32768x2 : Shape := ⟨2, ![32768, 2]⟩
abbrev S4x32x1024x512 : Shape := ⟨4, ![4, 32, 1024, 512]⟩
abbrev S4x32x512x1024 : Shape := ⟨4, ![4, 32, 512, 1024]⟩
abbrev S_ : Shape := ⟨0, ![]⟩

class Facts : Prop where
  bcast_S_S32768x2 : S_.BroadcastsInDim S32768x2 (![] : Fin 0 → Fin S32768x2.rank)

variable [Facts]

def fn {F : FTy → Type} [FloatOps F] (main_arg0 : FVec F S32768x1024 .f32) (main_arg1 : IVec S32768x2 32) (main_arg2 : FVec F S4x32x1024x512 .f32) (main_arg3 : FVec F S4x32x1024x512 .f32) (main_arg4 : FVec F S4x32x512x1024 .f32) : IVec S32768x2 1 :=
  let main_c : IVec S_ 32 := constantI S_ 32 0#32
  let main_v0 : IVec S32768x2 32 := broadcastInDim S32768x2 ![] bcast_S_S32768x2 main_c
  let main_v1 : IVec S32768x2 1 := cmpi .sge main_arg1 main_v0
  let main_c_0 : IVec S_ 32 := constantI S_ 32 32#32
  let main_v2 : IVec S32768x2 32 := broadcastInDim S32768x2 ![] bcast_S_S32768x2 main_c_0
  let main_v3 : IVec S32768x2 1 := cmpi .slt main_arg1 main_v2
  let main_v4 : IVec S32768x2 1 := andi main_v1 main_v3
  main_v4
-- ==== Pre_finite_rule.lean ====
abbrev S32768x1024 : Shape := ⟨2, ![32768, 1024]⟩
abbrev S32768x512 : Shape := ⟨2, ![32768, 512]⟩
abbrev S32768x256 : Shape := ⟨2, ![32768, 256]⟩
abbrev S4x1024x5648 : Shape := ⟨3, ![4, 1024, 5648]⟩
abbrev S4x64 : Shape := ⟨2, ![4, 64]⟩
abbrev S4x512x1024 : Shape := ⟨3, ![4, 512, 1024]⟩
abbrev S4x256x1024 : Shape := ⟨3, ![4, 256, 1024]⟩
abbrev S4x1024x1024 : Shape := ⟨3, ![4, 1024, 1024]⟩
abbrev S4x1024 : Shape := ⟨2, ![4, 1024]⟩
abbrev S1024x32 : Shape := ⟨2, ![1024, 32]⟩
abbrev S32 : Shape := ⟨1, ![32]⟩
abbrev S_ : Shape := ⟨0, ![]⟩

class Facts : Prop where
  bcast_S_S32768x256 : S_.BroadcastsInDim S32768x256 (![] : Fin 0 → Fin S32768x256.rank)

variable [Facts]

def fn {F : FTy → Type} [FloatOps F] (main_arg0 : FVec F S32768x1024 .f32) (main_arg1 : FVec F S32768x512 .f32) (main_arg2 : FVec F S32768x256 .f32) (main_arg3 : FVec F S32768x256 .f32) (main_arg4 : FVec F S32768x256 .f32) (main_arg5 : FVec F S32768x256 .f32) (main_arg6 : FVec F S4x1024x5648 .f32) (main_arg7 : FVec F S4x64 .f32) (main_arg8 : FVec F S4x512x1024 .f32) (main_arg9 : FVec F S4x256x1024 .f32) (main_arg10 : FVec F S4x256x1024 .f32) (main_arg11 : FVec F S4x1024x1024 .f32) (main_arg12 : FVec F S4x1024 .f32) (main_arg13 : FVec F S4x1024 .f32) (main_arg14 : FVec F S1024x32 .f32) (main_arg15 : FVec F S32 .f32) : IVec S32768x256 1 :=
  let main_v0 : FVec F S32768x256 .f32 := Host.absf main_arg3
  let main_cst : FVec F S_ .f32 := constant S_ .f32 0x7F800000#32
  let main_v1 : FVec F S32768x256 .f32 := broadcastInDim S32768x256 ![] bcast_S_S32768x256 main_cst
  let main_v2 : IVec S32768x256 1 := cmpf .olt main_v0 main_v1
  let main_v3 : FVec F S32768x256 .f32 := Host.absf main_arg4
  let main_cst_0 : FVec F S_ .f32 := constant S_ .f32 0x7F800000#32
  let main_v4 : FVec F S32768x256 .f32 := broadcastInDim S32768x256 ![] bcast_S_S32768x256 main_cst_0
  let main_v5 : IVec S32768x256 1 := cmpf .olt main_v3 main_v4
  let main_v6 : IVec S32768x256 1 := andi main_v2 main_v5
  main_v6
-- ==== Pre_finite_scores.lean ====
abbrev S8x4096x512 : Shape := ⟨3, ![8, 4096, 512]⟩
abbrev S8x4096x128 : Shape := ⟨3, ![8, 4096, 128]⟩
abbrev S8x4096x640 : Shape := ⟨3, ![8, 4096, 640]⟩
abbrev S_ : Shape := ⟨0, ![]⟩

class Facts : Prop where
  concatenates_S8x4096x512_S8x4096x128_S8x4096x640_d2 : Shape.Concatenates [S8x4096x512, S8x4096x128] S8x4096x640 2
  bcast_S_S8x4096x640 : S_.BroadcastsInDim S8x4096x640 (![] : Fin 0 → Fin S8x4096x640.rank)

variable [Facts]

def fn {F : FTy → Type} [FloatOps F] (main_arg0 : FVec F S8x4096x512 .f32) (main_arg1 : FVec F S8x4096x128 .f32) (main_arg2 : FVec F S8x4096x128 .f32) : IVec S8x4096x640 1 :=
  let main_v0 : FVec F S8x4096x640 .f32 := (fun a b => concatenate S8x4096x640 2 [⟨S8x4096x512, a⟩, ⟨S8x4096x128, b⟩] concatenates_S8x4096x512_S8x4096x128_S8x4096x640_d2) main_arg0 main_arg1
  let main_v1 : FVec F S8x4096x640 .f32 := Host.absf main_v0
  let main_cst : FVec F S_ .f32 := constant S_ .f32 0x7F800000#32
  let main_v2 : FVec F S8x4096x640 .f32 := broadcastInDim S8x4096x640 ![] bcast_S_S8x4096x640 main_cst
  let main_v3 : IVec S8x4096x640 1 := cmpf .olt main_v1 main_v2
  main_v3
-- ==== Kernel.lean ====
abbrev S8x4096x512 : Shape := ⟨3, ![8, 4096, 512]⟩
abbrev S8x4096x128 : Shape := ⟨3, ![8, 4096, 128]⟩
abbrev S32768x8x64 : Shape := ⟨3, ![32768, 8, 64]⟩
abbrev S32768x4x64 : Shape := ⟨3, ![32768, 4, 64]⟩
abbrev S_ : Shape := ⟨0, ![]⟩
abbrev S32768x4x128 : Shape := ⟨3, ![32768, 4, 128]⟩
abbrev S32768x8x128 : Shape := ⟨3, ![32768, 8, 128]⟩
abbrev S32768x1024 : Shape := ⟨2, ![32768, 1024]⟩
abbrev S32768x128 : Shape := ⟨2, ![32768, 128]⟩
abbrev S32768x256 : Shape := ⟨2, ![32768, 256]⟩
abbrev S32768x512 : Shape := ⟨2, ![32768, 512]⟩
abbrev S512x1024 : Shape := ⟨2, ![512, 1024]⟩
abbrev S4096x128 : Shape := ⟨2, ![4096, 128]⟩
abbrev S4096x256 : Shape := ⟨2, ![4096, 256]⟩
abbrev S512x512 : Shape := ⟨2, ![512, 512]⟩
abbrev S512x128 : Shape := ⟨2, ![512, 128]⟩
abbrev S512x4096 : Shape := ⟨2, ![512, 4096]⟩
abbrev S512 : Shape := ⟨1, ![512]⟩
abbrev S512x1 : Shape := ⟨2, ![512, 1]⟩
abbrev S512x256 : Shape := ⟨2, ![512, 256]⟩

abbrev nBuf : Space → Nat
  | .hbm => 23
  | .vmem => 8
  | .smem => 0
  | _ => 0

abbrev bufTy : (tb : Table) → Fin (tcTables nBuf tb) → BufTy
  | .hbm, ⟨0, _⟩ => ⟨S8x4096x512, .f32⟩
  | .hbm, ⟨1, _⟩ => ⟨S8x4096x128, .f32⟩
  | .hbm, ⟨2, _⟩ => ⟨S8x4096x128, .f32⟩
  | .hbm, ⟨3, _⟩ => ⟨S32768x8x64, .f32⟩
  | .hbm, ⟨4, _⟩ => ⟨S32768x4x64, .f32⟩
  | .hbm, ⟨5, _⟩ => ⟨S_, .i32⟩
  | .hbm, ⟨6, _⟩ => ⟨S_, .f32⟩
  | .hbm, ⟨7, _⟩ => ⟨S32768x4x128, .f32⟩
  | .hbm, ⟨8, _⟩ => ⟨S32768x4x64, .f32⟩
  | .hbm, ⟨9, _⟩ => ⟨S_, .i32⟩
  | .hbm, ⟨10, _⟩ => ⟨S_, .f32⟩
  | .hbm, ⟨11, _⟩ => ⟨S32768x4x128, .f32⟩
  | .hbm, ⟨12, _⟩ => ⟨S32768x8x128, .f32⟩
  | .hbm, ⟨13, _⟩ => ⟨S32768x1024, .f32⟩
  | .hbm, ⟨14, _⟩ => ⟨S32768x1024, .bf16⟩
  | .hbm, ⟨15, _⟩ => ⟨S32768x128, .f32⟩
  | .hbm, ⟨16, _⟩ => ⟨S_, .f32⟩
  | .hbm, ⟨17, _⟩ => ⟨S32768x128, .f32⟩
  | .hbm, ⟨18, _⟩ => ⟨S32768x256, .f32⟩
  | .hbm, ⟨19, _⟩ => ⟨S32768x256, .bf16⟩
  | .hbm, ⟨20, _⟩ => ⟨S32768x128, .f32⟩
  | .hbm, ⟨21, _⟩ => ⟨S32768x128, .bf16⟩
  | .hbm, ⟨22, _⟩ => ⟨S32768x512, .bf16⟩
  | .local _ .vmem, ⟨0, _⟩ => ⟨S512x1024, .bf16⟩
  | .local _ .vmem, ⟨1, _⟩ => ⟨S512x1024, .bf16⟩
  | .local _ .vmem, ⟨2, _⟩ => ⟨S4096x128, .bf16⟩
  | .local _ .vmem, ⟨3, _⟩ => ⟨S4096x128, .bf16⟩
  | .local _ .vmem, ⟨4, _⟩ => ⟨S4096x256, .bf16⟩
  | .local _ .vmem, ⟨5, _⟩ => ⟨S4096x256, .bf16⟩
  | .local _ .vmem, ⟨6, _⟩ => ⟨S512x512, .bf16⟩
  | .local _ .vmem, ⟨7, _⟩ => ⟨S512x512, .bf16⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_call1_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "scale" => some (((Real.log 256)⁻¹ : ℝ) : EReal)
  | _ => none
-- ==== ReferenceIdeal.lean ====
abbrev S8x4096x512 : Shape := ⟨3, ![8, 4096, 512]⟩
abbrev S8x4096x128 : Shape := ⟨3, ![8, 4096, 128]⟩
abbrev S8x4096x2x4x64 : Shape := ⟨5, ![8, 4096, 2, 4, 64]⟩
abbrev S_ : Shape := ⟨0, ![]⟩
abbrev S8x4096x2x64 : Shape := ⟨4, ![8, 4096, 2, 64]⟩
abbrev S8x2x4096x4096x4 : Shape := ⟨5, ![8, 2, 4096, 4096, 4]⟩
abbrev S8x2x4x4096x4096 : Shape := ⟨5, ![8, 2, 4, 4096, 4096]⟩
abbrev S8x2x4x4096 : Shape := ⟨4, ![8, 2, 4, 4096]⟩
abbrev S8x2x4x4096x1 : Shape := ⟨5, ![8, 2, 4, 4096, 1]⟩
abbrev S8x2x64x4x4096 : Shape := ⟨5, ![8, 2, 64, 4, 4096]⟩
abbrev S32768x512 : Shape := ⟨2, ![32768, 512]⟩

abbrev nBuf : Space → Nat
  | .hbm => 29
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8x4096x128, .f32⟩
  | .hbm, ⟨2, _⟩ => ⟨S8x4096x128, .f32⟩
  | .hbm, ⟨3, _⟩ => ⟨S8x4096x2x4x64, .f32⟩
  | .hbm, ⟨4, _⟩ => ⟨S_, .f32⟩
  | .hbm, ⟨5, _⟩ => ⟨S8x4096x2x4x64, .f32⟩
  | .hbm, ⟨6, _⟩ => ⟨S8x4096x2x4x64, .f32⟩
  | .hbm, ⟨7, _⟩ => ⟨S8x4096x2x64, .f32⟩
  | .hbm, ⟨8, _⟩ => ⟨S8x4096x2x64, .f32⟩
  | .hbm, ⟨9, _⟩ => ⟨S8x2x4096x4096x4, .f32⟩
  | .hbm, ⟨10, _⟩ => ⟨S8x2x4x4096x4096, .f32⟩
  | .hbm, ⟨11, _⟩ => ⟨S_, .f32⟩
  | .hbm, ⟨12, _⟩ => ⟨S8x2x4x4096, .f32⟩
  | .hbm, ⟨13, _⟩ => ⟨S_, .f32⟩
  | .hbm, ⟨14, _⟩ => ⟨S8x2x4x4096, .f32⟩
  | .hbm, ⟨15, _⟩ => ⟨S8x2x4x4096, .f32⟩
  | .hbm, ⟨16, _⟩ => ⟨S8x2x4x4096x1, .f32⟩
  | .hbm, ⟨17, _⟩ => ⟨S8x2x4x4096x4096, .f32⟩
  | .hbm, ⟨18, _⟩ => ⟨S8x2x4x4096x4096, .f32⟩
  | .hbm, ⟨19, _⟩ => ⟨S8x2x4x4096x4096, .f32⟩
  | .hbm, ⟨20, _⟩ => ⟨S_, .f32⟩
  | .hbm, ⟨21, _⟩ => ⟨S8x2x4x4096, .f32⟩
  | .hbm, ⟨22, _⟩ => ⟨S8x2x4x4096x1, .f32⟩
  | .hbm, ⟨23, _⟩ => ⟨S8x2x4x4096x4096, .f32⟩
  | .hbm, ⟨24, _⟩ => ⟨S8x2x4x4096x4096, .f32⟩
  | .hbm, ⟨25, _⟩ => ⟨S8x2x64x4x4096, .f32⟩
  | .hbm, ⟨26, _⟩ => ⟨S8x4096x2x4x64, .f32⟩
  | .hbm, ⟨27, _⟩ => ⟨S32768x512, .f32⟩
  | .hbm, ⟨28, _⟩ => ⟨S32768x512, .bf16⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Kernel2.lean ====
abbrev S32768x1024 : Shape := ⟨2, ![32768, 1024]⟩
abbrev S32768x2 : Shape := ⟨2, ![32768, 2]⟩
abbrev S4x32x1024x512 : Shape := ⟨4, ![4, 32, 1024, 512]⟩
abbrev S4x32x512x1024 : Shape := ⟨4, ![4, 32, 512, 1024]⟩
abbrev S64x512x2 : Shape := ⟨3, ![64, 512, 2]⟩
abbrev S64x512x2x1 : Shape := ⟨4, ![64, 512, 2, 1]⟩
abbrev S32 : Shape := ⟨1, ![32]⟩
abbrev S1x1x1x32 : Shape := ⟨4, ![1, 1, 1, 32]⟩
abbrev S64x512x2x32 : Shape := ⟨4, ![64, 512, 2, 32]⟩
abbrev S64x512x1x32 : Shape := ⟨4, ![64, 512, 1, 32]⟩
abbrev S64x512x32 : Shape := ⟨3, ![64, 512, 32]⟩
abbrev S_ : Shape := ⟨0, ![]⟩
abbrev S64x1x32 : Shape := ⟨3, ![64, 1, 32]⟩
abbrev S64x32 : Shape := ⟨2, ![64, 32]⟩
abbrev S1x32 : Shape := ⟨2, ![1, 32]⟩
abbrev S32768x32 : Shape := ⟨2, ![32768, 32]⟩
abbrev S32768x2x1 : Shape := ⟨3, ![32768, 2, 1]⟩
abbrev S1x1x32 : Shape := ⟨3, ![1, 1, 32]⟩
abbrev S32768x2x32 : Shape := ⟨3, ![32768, 2, 32]⟩
abbrev S32768x1x32 : Shape := ⟨3, ![32768, 1, 32]⟩
abbrev S288 : Shape := ⟨1, ![288]⟩
abbrev S288x1 : Shape := ⟨2, ![288, 1]⟩
abbrev S288x32 : Shape := ⟨2, ![288, 32]⟩
abbrev S1 : Shape := ⟨1, ![1]⟩
abbrev S73728 : Shape := ⟨1, ![73728]⟩
abbrev S65536 : Shape := ⟨1, ![65536]⟩
abbrev S32768 : Shape := ⟨1, ![32768]⟩
abbrev S65536x1 : Shape := ⟨2, ![65536, 1]⟩
abbrev S73728x1 : Shape := ⟨2, ![73728, 1]⟩
abbrev S1x1 : Shape := ⟨2, ![1, 1]⟩
abbrev S73728x1024 : Shape := ⟨2, ![73728, 1024]⟩
abbrev S256x1024 : Shape := ⟨2, ![256, 1024]⟩
abbrev S1x1x1024x512 : Shape := ⟨4, ![1, 1, 1024, 512]⟩
abbrev S1x1x512x1024 : Shape := ⟨4, ![1, 1, 512, 1024]⟩
abbrev S1024x512 : Shape := ⟨2, ![1024, 512]⟩
abbrev S512x1024 : Shape := ⟨2, ![512, 1024]⟩
abbrev S256x512 : Shape := ⟨2, ![256, 512]⟩
abbrev S32768x1 : Shape := ⟨2, ![32768, 1]⟩

abbrev nBuf : Space → Nat
  | .hbm => 211
  | .vmem => 13
  | .smem => 2
  | _ => 0

abbrev hbmTy0_0 (i : Nat) : BufTy := match i % 128 with
  | 0 => ⟨S32768x1024, .f32⟩
  | 1 => ⟨S32768x2, .i32⟩
  | 2 => ⟨S4x32x1024x512, .f32⟩
  | 3 => ⟨S4x32x1024x512, .f32⟩
  | 4 => ⟨S4x32x512x1024, .f32⟩
  | 5 => ⟨S64x512x2, .i32⟩
  | 6 => ⟨S64x512x2x1, .i32⟩
  | 7 => ⟨S32, .i32⟩
  | 8 => ⟨S1x1x1x32, .i32⟩
  | 9 => ⟨S64x512x2x32, .i32⟩
  | 10 => ⟨S64x512x2x32, .i32⟩
  | 11 => ⟨S64x512x2x32, .i1⟩
  | 12 => ⟨S64x512x1x32, .i1⟩
  | 13 => ⟨S64x512x32, .i1⟩
  | 14 => ⟨S64x512x1x32, .i1⟩
  | 15 => ⟨S64x512x32, .i1⟩
  | 16 => ⟨S64x512x32, .i1⟩
  | 17 => ⟨S64x512x32, .i32⟩
  | 18 => ⟨S_, .i32⟩
  | 19 => ⟨S_, .i32⟩
  | 20 => ⟨S64x512x32, .i32⟩
  | 21 => ⟨S64x512x1x32, .i32⟩
  | 22 => ⟨S_, .i32⟩
  | 23 => ⟨S_, .i32⟩
  | 24 => ⟨S64x512x2x32, .i32⟩
  | 25 => ⟨S64x512x2x32, .i32⟩
  | 26 => ⟨S64x512x2x32, .i32⟩
  | 27 => ⟨S_, .i32⟩
  | 28 => ⟨S64x512x2, .i32⟩
  | 29 => ⟨S_, .i32⟩
  | 30 => ⟨S64x512x2, .i32⟩
  | 31 => ⟨S64x512x2, .i32⟩
  | 32 => ⟨S32768x2, .i32⟩
  | 33 => ⟨S64x1x32, .i32⟩
  | 34 => ⟨S64x32, .i32⟩
  | 35 => ⟨S_, .i32⟩
  | 36 => ⟨S_, .i32⟩
  | 37 => ⟨S64x32, .i32⟩
  | 38 => ⟨S64x32, .i32⟩
  | 39 => ⟨S_, .i32⟩
  | 40 => ⟨S32, .i32⟩
  | 41 => ⟨S_, .i32⟩
  | 42 => ⟨S32, .i32⟩
  | 43 => ⟨S32, .i32⟩
  | 44 => ⟨S_, .i32⟩
  | 45 => ⟨S32, .i32⟩
  | 46 => ⟨S32, .i32⟩
  | 47 => ⟨S_, .i32⟩
  | 48 => ⟨S_, .i32⟩
  | 49 => ⟨S32, .i32⟩
  | 50 => ⟨S32, .i32⟩
  | 51 => ⟨S32, .i32⟩
  | 52 => ⟨S_, .i32⟩
  | 53 => ⟨S32, .i32⟩
  | 54 => ⟨S32, .i1⟩
  | 55 => ⟨S32, .i32⟩
  | 56 => ⟨S32, .i32⟩
  | 57 => ⟨S_, .i32⟩
  | 58 => ⟨S32, .i32⟩
  | 59 => ⟨S32, .i1⟩
  | 60 => ⟨S32, .i1⟩
  | 61 => ⟨S_, .i32⟩
  | 62 => ⟨S32, .i32⟩
  | 63 => ⟨S32, .i32⟩
  | 64 => ⟨S32, .i32⟩
  | 65 => ⟨S_, .i32⟩
  | 66 => ⟨S32, .i32⟩
  | 67 => ⟨S32, .i32⟩
  | 68 => ⟨S_, .i32⟩
  | 69 => ⟨S_, .i32⟩
  | 70 => ⟨S32, .i32⟩
  | 71 => ⟨S32, .i32⟩
  | 72 => ⟨S1x32, .i32⟩
  | 73 => ⟨S64x32, .i32⟩
  | 74 => ⟨S64x32, .i32⟩
  | 75 => ⟨S64x512x32, .i32⟩
  | 76 => ⟨S32768x32, .i32⟩
  | 77 => ⟨S32768x2x1, .i32⟩
  | 78 => ⟨S32, .i32⟩
  | 79 => ⟨S1x1x32, .i32⟩
  | 80 => ⟨S32768x2x32, .i32⟩
  | 81 => ⟨S32768x2x32, .i32⟩
  | 82 => ⟨S32768x2x32, .i1⟩
  | 83 => ⟨S32768x1x32, .i32⟩
  | 84 => ⟨S_, .i32⟩
  | 85 => ⟨S_, .i32⟩
  | 86 => ⟨S32768x2x32, .i32⟩
  | 87 => ⟨S32768x2x32, .i32⟩
  | 88 => ⟨S32768x2x32, .i32⟩
  | 89 => ⟨S_, .i32⟩
  | 90 => ⟨S32768x2, .i32⟩
  | 91 => ⟨S32768x2, .i32⟩
  | 92 => ⟨S288, .i32⟩
  | 93 => ⟨S_, .i32⟩
  | 94 => ⟨S288, .i32⟩
  | 95 => ⟨S288, .i32⟩
  | 96 => ⟨S288x1, .i32⟩
  | 97 => ⟨S1x32, .i32⟩
  | 98 => ⟨S288x32, .i32⟩
  | 99 => ⟨S288x32, .i32⟩
  | 100 => ⟨S288x32, .i1⟩
  | 101 => ⟨S288x32, .i32⟩
  | 102 => ⟨S_, .i32⟩
  | 103 => ⟨S288, .i32⟩
  | 104 => ⟨S_, .i32⟩
  | 105 => ⟨S288, .i32⟩
  | 106 => ⟨S1, .i32⟩
  | 107 => ⟨S_, .i32⟩
  | 108 => ⟨S_, .i32⟩
  | 109 => ⟨S_, .i32⟩
  | 110 => ⟨S_, .i32⟩
  | 111 => ⟨S_, .i32⟩
  | 112 => ⟨S_, .i32⟩
  | 113 => ⟨S_, .i1⟩
  | 114 => ⟨S_, .i32⟩
  | 115 => ⟨S_, .i32⟩
  | 116 => ⟨S_, .i1⟩
  | 117 => ⟨S_, .i1⟩
  | 118 => ⟨S_, .i32⟩
  | 119 => ⟨S_, .i32⟩
  | 120 => ⟨S_, .i32⟩
  | 121 => ⟨S_, .i32⟩
  | 122 => ⟨S73728, .i32⟩
  | 123 => ⟨S65536, .i32⟩
  | 124 => ⟨S32768, .i32⟩
  | 125 => ⟨S32768x2, .i32⟩
  | 126 => ⟨S65536, .i32⟩
  | 127 => ⟨S_, .i32⟩
  | _ => ⟨S32768x1024, .f32⟩

abbrev hbmTy0_1 (i : Nat) : BufTy := match i % 128 with
  | 0 => ⟨S65536, .i32⟩
  | 1 => ⟨S65536, .i1⟩
  | 2 => ⟨S_, .i32⟩
  | 3 => ⟨S65536, .i32⟩
  | 4 => ⟨S65536, .i32⟩
  | 5 => ⟨S65536, .i32⟩
  | 6 => ⟨S65536x1, .i32⟩
  | 7 => ⟨S73728, .i32⟩
  | 8 => ⟨S32768x1024, .bf16⟩
  | 9 => ⟨S_, .i32⟩
  | 10 => ⟨S73728, .i32⟩
  | 11 => ⟨S73728, .i1⟩
  | 12 => ⟨S_, .i32⟩
  | 13 => ⟨S73728, .i32⟩
  | 14 => ⟨S73728, .i32⟩
  | 15 => ⟨S73728, .i32⟩
  | 16 => ⟨S73728x1, .i32⟩
  | 17 => ⟨S1, .i32⟩
  | 18 => ⟨S_, .i32⟩
  | 19 => ⟨S73728x1, .i32⟩
  | 20 => ⟨S73728x1, .i1⟩
  | 21 => ⟨S1x1, .i32⟩
  | 22 => ⟨S73728x1, .i32⟩
  | 23 => ⟨S73728x1, .i1⟩
  | 24 => ⟨S73728x1, .i1⟩
  | 25 => ⟨S_, .i1⟩
  | 26 => ⟨S73728, .i1⟩
  | 27 => ⟨S73728x1024, .bf16⟩
  | 28 => ⟨S73728x1024, .i1⟩
  | 29 => ⟨S_, .bf16⟩
  | 30 => ⟨S73728x1024, .bf16⟩
  | 31 => ⟨S73728x1024, .bf16⟩
  | 32 => ⟨S73728x1024, .bf16⟩
  | 33 => ⟨S32768x1, .i32⟩
  | 34 => ⟨S32768, .i32⟩
  | 35 => ⟨S_, .i32⟩
  | 36 => ⟨S32768, .i32⟩
  | 37 => ⟨S32768, .i1⟩
  | 38 => ⟨S_, .i32⟩
  | 39 => ⟨S32768, .i32⟩
  | 40 => ⟨S32768, .i32⟩
  | 41 => ⟨S32768, .i32⟩
  | 42 => ⟨S32768x1, .i32⟩
  | 43 => ⟨S1, .i32⟩
  | 44 => ⟨S_, .i32⟩
  | 45 => ⟨S32768x1, .i32⟩
  | 46 => ⟨S32768x1, .i1⟩
  | 47 => ⟨S1x1, .i32⟩
  | 48 => ⟨S32768x1, .i32⟩
  | 49 => ⟨S32768x1, .i1⟩
  | 50 => ⟨S32768x1, .i1⟩
  | 51 => ⟨S_, .i1⟩
  | 52 => ⟨S32768, .i1⟩
  | 53 => ⟨S32768x1024, .bf16⟩
  | 54 => ⟨S32768x1024, .i1⟩
  | 55 => ⟨S_, .bf16⟩
  | 56 => ⟨S32768x1024, .bf16⟩
  | 57 => ⟨S32768x1024, .bf16⟩
  | 58 => ⟨S32768x1, .i32⟩
  | 59 => ⟨S32768, .i32⟩
  | 60 => ⟨S_, .i32⟩
  | 61 => ⟨S32768, .i32⟩
  | 62 => ⟨S32768, .i1⟩
  | 63 => ⟨S_, .i32⟩
  | 64 => ⟨S32768, .i32⟩
  | 65 => ⟨S32768, .i32⟩
  | 66 => ⟨S32768, .i32⟩
  | 67 => ⟨S32768x1, .i32⟩
  | 68 => ⟨S1, .i32⟩
  | 69 => ⟨S_, .i32⟩
  | 70 => ⟨S32768x1, .i32⟩
  | 71 => ⟨S32768x1, .i1⟩
  | 72 => ⟨S1x1, .i32⟩
  | 73 => ⟨S32768x1, .i32⟩
  | 74 => ⟨S32768x1, .i1⟩
  | 75 => ⟨S32768x1, .i1⟩
  | 76 => ⟨S_, .i1⟩
  | 77 => ⟨S32768, .i1⟩
  | 78 => ⟨S32768x1024, .bf16⟩
  | 79 => ⟨S32768x1024, .i1⟩
  | 80 => ⟨S_, .bf16⟩
  | 81 => ⟨S32768x1024, .bf16⟩
  | 82 => ⟨S32768x1024, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | .local _ .vmem, ⟨0, _⟩ => ⟨S256x1024, .bf16⟩
  | .local _ .vmem, ⟨1, _⟩ => ⟨S256x1024, .bf16⟩
  | .local _ .vmem, ⟨2, _⟩ => ⟨S1x1x1024x512, .f32⟩
  | .local _ .vmem, ⟨3, _⟩ => ⟨S1x1x1024x512, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x512x1024, .f32⟩
  | .local _ .vmem, ⟨7, _⟩ => ⟨S1x1x512x1024, .f32⟩
  | .local _ .vmem, ⟨8, _⟩ => ⟨S256x1024, .bf16⟩
  | .local _ .vmem, ⟨9, _⟩ => ⟨S256x1024, .bf16⟩
  | .local _ .vmem, ⟨10, _⟩ => ⟨S1024x512, .bf16⟩
  | .local _ .vmem, ⟨11, _⟩ => ⟨S1024x512, .bf16⟩
  | .local _ .vmem, ⟨12, _⟩ => ⟨S512x1024, .bf16⟩
  | .local _ .smem, ⟨0, _⟩ => ⟨S288, .i32⟩
  | .local _ .smem, ⟨1, _⟩ => ⟨S1, .i32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_call0_call0_c : Ref sig .tc := ⟨.hbm, 18, rfl⟩
abbrev main_call0_call0_v0 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v15 : Ref sig .tc := ⟨.hbm, 26, rfl⟩
abbrev main_c_0 : Ref sig .tc := ⟨.hbm, 27, rfl⟩
abbrev main_v16 : Ref sig .tc := ⟨.hbm, 28, rfl⟩
abbrev main_c_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_call2_call0_c : Ref sig .tc := ⟨.hbm, 35, rfl⟩
abbrev main_call2_call0_v0 : Ref sig .tc := ⟨.hbm, 36, rfl⟩
abbrev main_v22 : Ref sig .tc := ⟨.hbm, 37, rfl⟩
abbrev main_v23 : Ref sig .tc := ⟨.hbm, 38, rfl⟩
abbrev main_c_2 : Ref sig .tc := ⟨.hbm, 39, rfl⟩
abbrev main_v24 : Ref sig .tc := ⟨.hbm, 40, rfl⟩
abbrev main_c_3 : Ref sig .tc := ⟨.hbm, 41, rfl⟩
abbrev main_v25 : Ref sig .tc := ⟨.hbm, 42, rfl⟩
abbrev main_v26 : Ref sig .tc := ⟨.hbm, 43, rfl⟩
abbrev main_c_4 : Ref sig .tc := ⟨.hbm, 44, rfl⟩
abbrev main_v27 : Ref sig .tc := ⟨.hbm, 45, rfl⟩
abbrev main_v28 : Ref sig .tc := ⟨.hbm, 46, rfl⟩
abbrev main_c_5 : Ref sig .tc := ⟨.hbm, 47, rfl⟩
abbrev main_call3_v0 : Ref sig .tc := ⟨.hbm, 48, rfl⟩
abbrev main_call3_v1 : Ref sig .tc := ⟨.hbm, 49, rfl⟩
abbrev main_call3_v2 : Ref sig .tc := ⟨.hbm, 50, rfl⟩
abbrev main_call3_v3 : Ref sig .tc := ⟨.hbm, 51, rfl⟩
abbrev main_call3_v4 : Ref sig .tc := ⟨.hbm, 52, rfl⟩
abbrev main_call3_v5 : Ref sig .tc := ⟨.hbm, 53, rfl⟩
abbrev main_call3_v6 : Ref sig .tc := ⟨.hbm, 54, rfl⟩
abbrev main_call3_v7 : Ref sig .tc := ⟨.hbm, 55, rfl⟩
abbrev main_call3_v8 : Ref sig .tc := ⟨.hbm, 56, rfl⟩
abbrev main_call3_c : Ref sig .tc := ⟨.hbm, 57, rfl⟩
abbrev main_call3_v9 : Ref sig .tc := ⟨.hbm, 58, rfl⟩
abbrev main_call3_v10 : Ref sig .tc := ⟨.hbm, 59, rfl⟩
abbrev main_call3_v11 : Ref sig .tc := ⟨.hbm, 60, rfl⟩
abbrev main_call3_c_0 : Ref sig .tc := ⟨.hbm, 61, rfl⟩
abbrev main_call3_v12 : Ref sig .tc := ⟨.hbm, 62, rfl⟩
abbrev main_call3_v13 : Ref sig .tc := ⟨.hbm, 63, rfl⟩
abbrev main_v29 : Ref sig .tc := ⟨.hbm, 64, rfl⟩
abbrev main_c_6 : Ref sig .tc := ⟨.hbm, 65, rfl⟩
abbrev main_v30 : Ref sig .tc := ⟨.hbm, 66, rfl⟩
abbrev main_v31 : Ref sig .tc := ⟨.hbm, 67, rfl⟩
abbrev main_call4_call0_c : Ref sig .tc := ⟨.hbm, 68, rfl⟩
abbrev main_call4_call0_v0 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_c_7 : Ref sig .tc := ⟨.hbm, 84, rfl⟩
abbrev main_call5_v0 : Ref sig .tc := ⟨.hbm, 85, rfl⟩
abbrev main_call5_v1 : Ref sig .tc := ⟨.hbm, 86, rfl⟩
abbrev main_call5_v2 : Ref sig .tc := ⟨.hbm, 87, rfl⟩
abbrev main_v46 : Ref sig .tc := ⟨.hbm, 88, rfl⟩
abbrev main_c_8 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_c_9 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_c_10 : Ref sig .tc := ⟨.hbm, 102, rfl⟩
abbrev main_v58 : Ref sig .tc := ⟨.hbm, 103, rfl⟩
abbrev main_c_11 : Ref sig .tc := ⟨.hbm, 104, rfl⟩
abbrev main_v59 : Ref sig .tc := ⟨.hbm, 105, rfl⟩
abbrev main_v61 : Ref sig .tc := ⟨.hbm, 106, rfl⟩
abbrev main_v62 : Ref sig .tc := ⟨.hbm, 107, rfl⟩
abbrev main_c_12 : Ref sig .tc := ⟨.hbm, 108, rfl⟩
abbrev main_call6_v0 : Ref sig .tc := ⟨.hbm, 109, rfl⟩
abbrev main_call6_v1 : Ref sig .tc := ⟨.hbm, 110, rfl⟩
abbrev main_call6_v2 : Ref sig .tc := ⟨.hbm, 111, rfl⟩
abbrev main_call6_v3 : Ref sig .tc := ⟨.hbm, 112, rfl⟩
abbrev main_call6_v4 : Ref sig .tc := ⟨.hbm, 113, rfl⟩
abbrev main_call6_v5 : Ref sig .tc := ⟨.hbm, 114, rfl⟩
abbrev main_call6_c : Ref sig .tc := ⟨.hbm, 115, rfl⟩
abbrev main_call6_v6 : Ref sig .tc := ⟨.hbm, 116, rfl⟩
abbrev main_call6_v7 : Ref sig .tc := ⟨.hbm, 117, rfl⟩
abbrev main_call6_c_0 : Ref sig .tc := ⟨.hbm, 118, rfl⟩
abbrev main_call6_v8 : Ref sig .tc := ⟨.hbm, 119, rfl⟩
abbrev main_v63 : Ref sig .tc := ⟨.hbm, 120, rfl⟩
abbrev main_c_13 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_c_14 : Ref sig .tc := ⟨.hbm, 127, rfl⟩
abbrev main_v70 : Ref sig .tc := ⟨.hbm, 128, rfl⟩
abbrev main_v71 : Ref sig .tc := ⟨.hbm, 129, rfl⟩
abbrev main_c_15 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_call7_c : Ref sig .tc := ⟨.hbm, 137, rfl⟩
abbrev main_call7_v0 : Ref sig .tc := ⟨.hbm, 138, rfl⟩
abbrev main_call7_v1 : Ref sig .tc := ⟨.hbm, 139, rfl⟩
abbrev main_call7_c_0 : Ref sig .tc := ⟨.hbm, 140, rfl⟩
abbrev main_call7_v2 : Ref sig .tc := ⟨.hbm, 141, rfl⟩
abbrev main_call7_v3 : Ref sig .tc := ⟨.hbm, 142, rfl⟩
abbrev main_call7_v4 : Ref sig .tc := ⟨.hbm, 143, rfl⟩
abbrev main_call7_v5 : Ref sig .tc := ⟨.hbm, 144, rfl⟩
abbrev main_call7_c_1 : Ref sig .tc := ⟨.hbm, 145, rfl⟩
abbrev main_call7_c_2 : Ref sig .tc := ⟨.hbm, 146, rfl⟩
abbrev main_call7_v6 : Ref sig .tc := ⟨.hbm, 147, rfl⟩
abbrev main_call7_v7 : Ref sig .tc := ⟨.hbm, 148, rfl⟩
abbrev main_call7_v8 : Ref sig .tc := ⟨.hbm, 149, rfl⟩
abbrev main_call7_v9 : Ref sig .tc := ⟨.hbm, 150, rfl⟩
abbrev main_call7_v10 : Ref sig .tc := ⟨.hbm, 151, rfl⟩
abbrev main_call7_v11 : Ref sig .tc := ⟨.hbm, 152, rfl⟩
abbrev main_call7_c_3 : Ref sig .tc := ⟨.hbm, 153, rfl⟩
abbrev main_call7_v12 : Ref sig .tc := ⟨.hbm, 154, rfl⟩
abbrev main_call7_v13 : Ref sig .tc := ⟨.hbm, 155, rfl⟩
abbrev main_call7_v14 : Ref sig .tc := ⟨.hbm, 156, rfl⟩
abbrev main_call7_cst : Ref sig .tc := ⟨.hbm, 157, rfl⟩
abbrev main_call7_v15 : Ref sig .tc := ⟨.hbm, 158, rfl⟩
abbrev main_v78 : Ref sig .tc := ⟨.hbm, 159, rfl⟩
abbrev main_v79 : Ref sig .tc := ⟨.hbm, 160, rfl⟩
abbrev main_v80 : Ref sig .tc := ⟨.hbm, 161, rfl⟩
abbrev main_v81 : Ref sig .tc := ⟨.hbm, 162, rfl⟩
abbrev main_call8_c : Ref sig .tc := ⟨.hbm, 163, rfl⟩
abbrev main_call8_v0 : Ref sig .tc := ⟨.hbm, 164, rfl⟩
abbrev main_call8_v1 : Ref sig .tc := ⟨.hbm, 165, rfl⟩
abbrev main_call8_c_0 : Ref sig .tc := ⟨.hbm, 166, rfl⟩
abbrev main_call8_v2 : Ref sig .tc := ⟨.hbm, 167, rfl⟩
abbrev main_call8_v3 : Ref sig .tc := ⟨.hbm, 168, rfl⟩
abbrev main_call8_v4 : Ref sig .tc := ⟨.hbm, 169, rfl⟩
abbrev main_call8_v5 : Ref sig .tc := ⟨.hbm, 170, rfl⟩
abbrev main_call8_c_1 : Ref sig .tc := ⟨.hbm, 171, rfl⟩
abbrev main_call8_c_2 : Ref sig .tc := ⟨.hbm, 172, rfl⟩
abbrev main_call8_v6 : Ref sig .tc := ⟨.hbm, 173, rfl⟩
abbrev main_call8_v7 : Ref sig .tc := ⟨.hbm, 174, rfl⟩
abbrev main_call8_v8 : Ref sig .tc := ⟨.hbm, 175, rfl⟩
abbrev main_call8_v9 : Ref sig .tc := ⟨.hbm, 176, rfl⟩
abbrev main_call8_v10 : Ref sig .tc := ⟨.hbm, 177, rfl⟩
abbrev main_call8_v11 : Ref sig .tc := ⟨.hbm, 178, rfl⟩
abbrev main_call8_c_3 : Ref sig .tc := ⟨.hbm, 179, rfl⟩
abbrev main_call8_v12 : Ref sig .tc := ⟨.hbm, 180, rfl⟩
abbrev main_call8_v13 : Ref sig .tc := ⟨.hbm, 181, rfl⟩
abbrev main_call8_v14 : Ref sig .tc := ⟨.hbm, 182, rfl⟩
abbrev main_call8_cst : Ref sig .tc := ⟨.hbm, 183, rfl⟩
abbrev main_call8_v15 : Ref sig .tc := ⟨.hbm, 184, rfl⟩
abbrev main_v82 : Ref sig .tc := ⟨.hbm, 185, rfl⟩
abbrev main_v83 : Ref sig .tc := ⟨.hbm, 186, rfl⟩
abbrev main_v84 : Ref sig .tc := ⟨.hbm, 187, rfl⟩
abbrev main_call9_c : Ref sig .tc := ⟨.hbm, 188, rfl⟩
abbrev main_call9_v0 : Ref sig .tc := ⟨.hbm, 189, rfl⟩
abbrev main_call9_v1 : Ref sig .tc := ⟨.hbm, 190, rfl⟩
abbrev main_call9_c_0 : Ref sig .tc := ⟨.hbm, 191, rfl⟩
abbrev main_call9_v2 : Ref sig .tc := ⟨.hbm, 192, rfl⟩
abbrev main_call9_v3 : Ref sig .tc := ⟨.hbm, 193, rfl⟩
abbrev main_call9_v4 : Ref sig .tc := ⟨.hbm, 194, rfl⟩
abbrev main_call9_v5 : Ref sig .tc := ⟨.hbm, 195, rfl⟩
abbrev main_call9_c_1 : Ref sig .tc := ⟨.hbm, 196, rfl⟩
abbrev main_call9_c_2 : Ref sig .tc := ⟨.hbm, 197, rfl⟩
abbrev main_call9_v6 : Ref sig .tc := ⟨.hbm, 198, rfl⟩
abbrev main_call9_v7 : Ref sig .tc := ⟨.hbm, 199, rfl⟩
abbrev main_call9_v8 : Ref sig .tc := ⟨.hbm, 200, rfl⟩
abbrev main_call9_v9 : Ref sig .tc := ⟨.hbm, 201, rfl⟩
abbrev main_call9_v10 : Ref sig .tc := ⟨.hbm, 202, rfl⟩
abbrev main_call9_v11 : Ref sig .tc := ⟨.hbm, 203, rfl⟩
abbrev main_call9_c_3 : Ref sig .tc := ⟨.hbm, 204, rfl⟩
abbrev main_call9_v12 : Ref sig .tc := ⟨.hbm, 205, rfl⟩
abbrev main_call9_v13 : Ref sig .tc := ⟨.hbm, 206, rfl⟩
abbrev main_call9_v14 : Ref sig .tc := ⟨.hbm, 207, rfl⟩
abbrev main_call9_cst : Ref sig .tc := ⟨.hbm, 208, rfl⟩
abbrev main_call9_v15 : Ref sig .tc := ⟨.hbm, 209, rfl⟩
abbrev main_v85 : Ref sig .tc := ⟨.hbm, 210, rfl⟩
abbrev main_v60 : Ref sig .tc := ⟨.smem, 0, rfl⟩
abbrev main_v64 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_v60.idx, main_v64.idx], fun | 0 => main_v60.names | 1 => main_v64.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg0 : BitVec 32 := BitVec.ofNat 32 (i 0).val
  let v16 : BitVec 1 := Scalar.cmpi .sge arg0 v15
  let v17 : BitVec 32 := Scalar.extui v16
  let c0_i32_4 : BitVec 32 := 0#32
  let v18 : BitVec 1 := Scalar.cmpi .ne v17 c0_i32_4
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S32768x1024 : Shape := ⟨2, ![32768, 1024]⟩
abbrev S32768x2 : Shape := ⟨2, ![32768, 2]⟩
abbrev S4x32x1024x512 : Shape := ⟨4, ![4, 32, 1024, 512]⟩
abbrev S4x32x512x1024 : Shape := ⟨4, ![4, 32, 512, 1024]⟩
abbrev S1x32x1024x512 : Shape := ⟨4, ![1, 32, 1024, 512]⟩
abbrev S32x1024x512 : Shape := ⟨3, ![32, 1024, 512]⟩
abbrev S1x32x512x1024 : Shape := ⟨4, ![1, 32, 512, 1024]⟩
abbrev S32x512x1024 : Shape := ⟨3, ![32, 512, 1024]⟩
abbrev S32x512x32768 : Shape := ⟨3, ![32, 512, 32768]⟩
abbrev S32x32768x512 : Shape := ⟨3, ![32, 32768, 512]⟩
abbrev S_ : Shape := ⟨0, ![]⟩
abbrev S32x32768x1024 : Shape := ⟨3, ![32, 32768, 1024]⟩
abbrev S32768x1 : Shape := ⟨2, ![32768, 1]⟩
abbrev S32768 : Shape := ⟨1, ![32768]⟩
abbrev S32 : Shape := ⟨1, ![32]⟩
abbrev S1x32 : Shape := ⟨2, ![1, 32]⟩
abbrev S32768x32 : Shape := ⟨2, ![32768, 32]⟩
abbrev S32x32768 : Shape := ⟨2, ![32, 32768]⟩
abbrev S32x32768x1 : Shape := ⟨3, ![32, 32768, 1]⟩

abbrev nBuf : Space → Nat
  | .hbm => 58
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x2, .i32⟩
  | .hbm, ⟨2, _⟩ => ⟨S4x32x1024x512, .f32⟩
  | .hbm, ⟨3, _⟩ => ⟨S4x32x1024x512, .f32⟩
  | .hbm, ⟨4, _⟩ => ⟨S4x32x512x1024, .f32⟩
  | .hbm, ⟨5, _⟩ => ⟨S1x32x1024x512, .f32⟩
  | .hbm, ⟨6, _⟩ => ⟨S32x1024x512, .f32⟩
  | .hbm, ⟨7, _⟩ => ⟨S1x32x1024x512, .f32⟩
  | .hbm, ⟨8, _⟩ => ⟨S32x1024x512, .f32⟩
  | .hbm, ⟨9, _⟩ => ⟨S1x32x512x1024, .f32⟩
  | .hbm, ⟨10, _⟩ => ⟨S32x512x1024, .f32⟩
  | .hbm, ⟨11, _⟩ => ⟨S32x512x32768, .f32⟩
  | .hbm, ⟨12, _⟩ => ⟨S32x32768x512, .f32⟩
  | .hbm, ⟨13, _⟩ => ⟨S32x32768x512, .f32⟩
  | .hbm, ⟨14, _⟩ => ⟨S32x32768x512, .f32⟩
  | .hbm, ⟨15, _⟩ => ⟨S_, .f32⟩
  | .hbm, ⟨16, _⟩ => ⟨S32x32768x512, .f32⟩
  | .hbm, ⟨17, _⟩ => ⟨S32x32768x512, .f32⟩
  | .hbm, ⟨18, _⟩ => ⟨S_, .f32⟩
  | .hbm, ⟨19, _⟩ => ⟨S32x32768x512, .f32⟩
  | .hbm, ⟨20, _⟩ => ⟨S32x32768x512, .f32⟩
  | .hbm, ⟨21, _⟩ => ⟨S32x32768x512, .f32⟩
  | .hbm, ⟨22, _⟩ => ⟨S32x512x32768, .f32⟩
  | .hbm, ⟨23, _⟩ => ⟨S32x32768x512, .f32⟩
  | .hbm, ⟨24, _⟩ => ⟨S32x32768x512, .f32⟩
  | .hbm, ⟨25, _⟩ => ⟨S32x32768x1024, .f32⟩
  | .hbm, ⟨26, _⟩ => ⟨S32768x1, .i32⟩
  | .hbm, ⟨27, _⟩ => ⟨S32768, .i32⟩
  | .hbm, ⟨28, _⟩ => ⟨S32768x1, .i32⟩
  | .hbm, ⟨29, _⟩ => ⟨S32, .i32⟩
  | .hbm, ⟨30, _⟩ => ⟨S1x32, .i32⟩
  | .hbm, ⟨31, _⟩ => ⟨S32768x32, .i32⟩
  | .hbm, ⟨32, _⟩ => ⟨S32768x32, .i32⟩
  | .hbm, ⟨33, _⟩ => ⟨S32768x32, .i1⟩
  | .hbm, ⟨34, _⟩ => ⟨S32768x32, .f32⟩
  | .hbm, ⟨35, _⟩ => ⟨S32x32768, .f32⟩
  | .hbm, ⟨36, _⟩ => ⟨S32x32768x1, .f32⟩
  | .hbm, ⟨37, _⟩ => ⟨S32x32768x1024, .f32⟩
  | .hbm, ⟨38, _⟩ => ⟨S32x32768x1024, .f32⟩
  | .hbm, ⟨39, _⟩ => ⟨S_, .f32⟩
  | .hbm, ⟨40, _⟩ => ⟨S32768x1024, .f32⟩
  | .hbm, ⟨41, _⟩ => ⟨S32768x1024, .bf16⟩
  | .hbm, ⟨42, _⟩ => ⟨S32768x1, .i32⟩
  | .hbm, ⟨43, _⟩ => ⟨S32768, .i32⟩
  | .hbm, ⟨44, _⟩ => ⟨S32768x1, .i32⟩
  | .hbm, ⟨45, _⟩ => ⟨S32, .i32⟩
  | .hbm, ⟨46, _⟩ => ⟨S1x32, .i32⟩
  | .hbm, ⟨47, _⟩ => ⟨S32768x32, .i32⟩
  | .hbm, ⟨48, _⟩ => ⟨S32768x32, .i32⟩
  | .hbm, ⟨49, _⟩ => ⟨S32768x32, .i1⟩
  | .hbm, ⟨50, _⟩ => ⟨S32768x32, .f32⟩
  | .hbm, ⟨51, _⟩ => ⟨S32x32768, .f32⟩
  | .hbm, ⟨52, _⟩ => ⟨S32x32768x1, .f32⟩
  | .hbm, ⟨53, _⟩ => ⟨S32x32768x1024, .f32⟩
  | .hbm, ⟨54, _⟩ => ⟨S32x32768x1024, .f32⟩
  | .hbm, ⟨55, _⟩ => ⟨S_, .f32⟩
  | .hbm, ⟨56, _⟩ => ⟨S32768x1024, .f32⟩
  | .hbm, ⟨57, _⟩ => ⟨S32768x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_0 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== Kernel3.lean ====
abbrev S32768x1024 : Shape := ⟨2, ![32768, 1024]⟩
abbrev S32768x512 : Shape := ⟨2, ![32768, 512]⟩
abbrev S32768x256 : Shape := ⟨2, ![32768, 256]⟩
abbrev S4x1024x5648 : Shape := ⟨3, ![4, 1024, 5648]⟩
abbrev S4x64 : Shape := ⟨2, ![4, 64]⟩
abbrev S4x512x1024 : Shape := ⟨3, ![4, 512, 1024]⟩
abbrev S4x256x1024 : Shape := ⟨3, ![4, 256, 1024]⟩
abbrev S4x1024x1024 : Shape := ⟨3, ![4, 1024, 1024]⟩
abbrev S4x1024 : Shape := ⟨2, ![4, 1024]⟩
abbrev S1024x32 : Shape := ⟨2, ![1024, 32]⟩
abbrev S32 : Shape := ⟨1, ![32]⟩
abbrev S4x1024x3072 : Shape := ⟨3, ![4, 1024, 3072]⟩
abbrev S1024x8x4 : Shape := ⟨3, ![1024, 8, 4]⟩
abbrev S1024x4x8 : Shape := ⟨3, ![1024, 4, 8]⟩
abbrev S_ : Shape := ⟨0, ![]⟩
abbrev S1024x128 : Shape := ⟨2, ![1024, 128]⟩
abbrev S8x4 : Shape := ⟨2, ![8, 4]⟩
abbrev S4x8 : Shape := ⟨2, ![4, 8]⟩
abbrev S128 : Shape := ⟨1, ![128]⟩
abbrev S1x128 : Shape := ⟨2, ![1, 128]⟩
abbrev S1x64 : Shape := ⟨2, ![1, 64]⟩
abbrev S64 : Shape := ⟨1, ![64]⟩
abbrev S256 : Shape := ⟨1, ![256]⟩
abbrev S1x256 : Shape := ⟨2, ![1, 256]⟩
abbrev S4 : Shape := ⟨1, ![4]⟩
abbrev S4x1 : Shape := ⟨2, ![4, 1]⟩
abbrev S1x4 : Shape := ⟨2, ![1, 4]⟩
abbrev S4x4 : Shape := ⟨2, ![4, 4]⟩
abbrev S4x1x4x1 : Shape := ⟨4, ![4, 1, 4, 1]⟩
abbrev S4x64x4x64 : Shape := ⟨4, ![4, 64, 4, 64]⟩
abbrev S256x256 : Shape := ⟨2, ![256, 256]⟩
abbrev S1x1024 : Shape := ⟨2, ![1, 1024]⟩
abbrev S1024 : Shape := ⟨1, ![1024]⟩
abbrev S512 : Shape := ⟨1, ![512]⟩
abbrev S1x512 : Shape := ⟨2, ![1, 512]⟩
abbrev S512x1 : Shape := ⟨2, ![512, 1]⟩
abbrev S512x512 : Shape := ⟨2, ![512, 512]⟩
abbrev S32768x128 : Shape := ⟨2, ![32768, 128]⟩
abbrev S64x1x128 : Shape := ⟨3, ![64, 1, 128]⟩
abbrev S512x1024 : Shape := ⟨2, ![512, 1024]⟩
abbrev S512x256 : Shape := ⟨2, ![512, 256]⟩
abbrev S1x1024x3072 : Shape := ⟨3, ![1, 1024, 3072]⟩
abbrev S1x512x1024 : Shape := ⟨3, ![1, 512, 1024]⟩
abbrev S1x256x1024 : Shape := ⟨3, ![1, 256, 1024]⟩
abbrev S1x1024x1024 : Shape := ⟨3, ![1, 1024, 1024]⟩
abbrev S512x128 : Shape := ⟨2, ![512, 128]⟩
abbrev S1x1x128 : Shape := ⟨3, ![1, 1, 128]⟩
abbrev S1024x1024 : Shape := ⟨2, ![1024, 1024]⟩
abbrev S256x1024 : Shape := ⟨2, ![256, 1024]⟩

abbrev nBuf : Space → Nat
  | .hbm => 75
  | .vmem => 33
  | .smem => 0
  | _ => 0

abbrev bufTy : (tb : Table) → Fin (tcTables nBuf tb) → BufTy
  | .hbm, ⟨0, _⟩ => ⟨S32768x1024, .f32⟩
  | .hbm, ⟨1, _⟩ => ⟨S32768x512, .f32⟩
  | .hbm, ⟨2, _⟩ => ⟨S32768x256, .f32⟩
  | .hbm, ⟨3, _⟩ => ⟨S32768x256, .f32⟩
  | .hbm, ⟨4, _⟩ => ⟨S32768x256, .f32⟩
  | .hbm, ⟨5, _⟩ => ⟨S32768x256, .f32⟩
  | .hbm, ⟨6, _⟩ => ⟨S4x1024x5648, .f32⟩
  | .hbm, ⟨7, _⟩ => ⟨S4x64, .f32⟩
  | .hbm, ⟨8, _⟩ => ⟨S4x512x1024, .f32⟩
  | .hbm, ⟨9, _⟩ => ⟨S4x256x1024, .f32⟩
  | .hbm, ⟨10, _⟩ => ⟨S4x256x1024, .f32⟩
  | .hbm, ⟨11, _⟩ => ⟨S4x1024x1024, .f32⟩
  | .hbm, ⟨12, _⟩ => ⟨S4x1024, .f32⟩
  | .hbm, ⟨13, _⟩ => ⟨S4x1024, .f32⟩
  | .hbm, ⟨14, _⟩ => ⟨S1024x32, .f32⟩
  | .hbm, ⟨15, _⟩ => ⟨S32, .f32⟩
  | .hbm, ⟨16, _⟩ => ⟨S4x1024x3072, .f32⟩
  | .hbm, ⟨17, _⟩ => ⟨S4x1024x3072, .bf16⟩
  | .hbm, ⟨18, _⟩ => ⟨S4x512x1024, .bf16⟩
  | .hbm, ⟨19, _⟩ => ⟨S4x256x1024, .bf16⟩
  | .hbm, ⟨20, _⟩ => ⟨S4x256x1024, .bf16⟩
  | .hbm, ⟨21, _⟩ => ⟨S4x1024x1024, .bf16⟩
  | .hbm, ⟨22, _⟩ => ⟨S1024x8x4, .f32⟩
  | .hbm, ⟨23, _⟩ => ⟨S1024x4x8, .f32⟩
  | .hbm, ⟨24, _⟩ => ⟨S1024x32, .f32⟩
  | .hbm, ⟨25, _⟩ => ⟨S_, .i32⟩
  | .hbm, ⟨26, _⟩ => ⟨S_, .f32⟩
  | .hbm, ⟨27, _⟩ => ⟨S1024x128, .f32⟩
  | .hbm, ⟨28, _⟩ => ⟨S1024x128, .bf16⟩
  | .hbm, ⟨29, _⟩ => ⟨S1024x128, .f32⟩
  | .hbm, ⟨30, _⟩ => ⟨S1024x128, .f32⟩
  | .hbm, ⟨31, _⟩ => ⟨S1024x128, .bf16⟩
  | .hbm, ⟨32, _⟩ => ⟨S8x4, .f32⟩
  | .hbm, ⟨33, _⟩ => ⟨S4x8, .f32⟩
  | .hbm, ⟨34, _⟩ => ⟨S32, .f32⟩
  | .hbm, ⟨35, _⟩ => ⟨S_, .i32⟩
  | .hbm, ⟨36, _⟩ => ⟨S_, .f32⟩
  | .hbm, ⟨37, _⟩ => ⟨S128, .f32⟩
  | .hbm, ⟨38, _⟩ => ⟨S1x128, .f32⟩
  | .hbm, ⟨39, _⟩ => ⟨S1x64, .f32⟩
  | .hbm, ⟨40, _⟩ => ⟨S64, .f32⟩
  | .hbm, ⟨41, _⟩ => ⟨S1x64, .f32⟩
  | .hbm, ⟨42, _⟩ => ⟨S4x64, .f32⟩
  | .hbm, ⟨43, _⟩ => ⟨S256, .f32⟩
  | .hbm, ⟨44, _⟩ => ⟨S1x256, .f32⟩
  | .hbm, ⟨45, _⟩ => ⟨S32768x512, .bf16⟩
  | .hbm, ⟨46, _⟩ => ⟨S32768x256, .bf16⟩
  | .hbm, ⟨47, _⟩ => ⟨S32768x256, .bf16⟩
  | .hbm, ⟨48, _⟩ => ⟨S4, .i32⟩
  | .hbm, ⟨49, _⟩ => ⟨S4x1, .i32⟩
  | .hbm, ⟨50, _⟩ => ⟨S1x4, .i32⟩
  | .hbm, ⟨51, _⟩ => ⟨S4x4, .i32⟩
  | .hbm, ⟨52, _⟩ => ⟨S4x4, .i32⟩
  | .hbm, ⟨53, _⟩ => ⟨S4x4, .i1⟩
  | .hbm, ⟨54, _⟩ => ⟨S4x4, .bf16⟩
  | .hbm, ⟨55, _⟩ => ⟨S4x1x4x1, .bf16⟩
  | .hbm, ⟨56, _⟩ => ⟨S4x64x4x64, .bf16⟩
  | .hbm, ⟨57, _⟩ => ⟨S256x256, .bf16⟩
  | .hbm, ⟨58, _⟩ => ⟨S1x1024, .f32⟩
  | .hbm, ⟨59, _⟩ => ⟨S1024, .f32⟩
  | .hbm, ⟨60, _⟩ => ⟨S1x1024, .f32⟩
  | .hbm, ⟨61, _⟩ => ⟨S1x1024, .f32⟩
  | .hbm, ⟨62, _⟩ => ⟨S1024, .f32⟩
  | .hbm, ⟨63, _⟩ => ⟨S1x1024, .f32⟩
  | .hbm, ⟨64, _⟩ => ⟨S512, .i32⟩
  | .hbm, ⟨65, _⟩ => ⟨S1x512, .i32⟩
  | .hbm, ⟨66, _⟩ => ⟨S512x1, .i32⟩
  | .hbm, ⟨67, _⟩ => ⟨S512x512, .i32⟩
  | .hbm, ⟨68, _⟩ => ⟨S512x512, .i32⟩
  | .hbm, ⟨69, _⟩ => ⟨S512x512, .i1⟩
  | .hbm, ⟨70, _⟩ => ⟨S512x512, .bf16⟩
  | .hbm, ⟨71, _⟩ => ⟨S32768x1024, .f32⟩
  | .hbm, ⟨72, _⟩ => ⟨S32768x1024, .bf16⟩
  | .hbm, ⟨73, _⟩ => ⟨S32768x128, .f32⟩
  | .hbm, ⟨74, _⟩ => ⟨S64x1x128, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x256, .bf16⟩
  | .local _ .vmem, ⟨5, _⟩ => ⟨S512x256, .bf16⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .bf16⟩
  | .local _ .vmem, ⟨11, _⟩ => ⟨S512x256, .bf16⟩
  | .local _ .vmem, ⟨12, _⟩ => ⟨S1x1024x3072, .bf16⟩
  | .local _ .vmem, ⟨13, _⟩ => ⟨S1x512x1024, .bf16⟩
  | .local _ .vmem, ⟨14, _⟩ => ⟨S1x256x1024, .bf16⟩
  | .local _ .vmem, ⟨15, _⟩ => ⟨S1x256x1024, .bf16⟩
  | .local _ .vmem, ⟨16, _⟩ => ⟨S1x1024x1024, .bf16⟩
  | .local _ .vmem, ⟨17, _⟩ => ⟨S1x256, .f32⟩
  | .local _ .vmem, ⟨18, _⟩ => ⟨S256x256, .bf16⟩
  | .local _ .vmem, ⟨19, _⟩ => ⟨S1x1024, .f32⟩
  | .local _ .vmem, ⟨20, _⟩ => ⟨S1x1024, .f32⟩
  | .local _ .vmem, ⟨21, _⟩ => ⟨S1024x128, .bf16⟩
  | .local _ .vmem, ⟨22, _⟩ => ⟨S1024x128, .bf16⟩
  | .local _ .vmem, ⟨23, _⟩ => ⟨S1x128, .f32⟩
  | .local _ .vmem, ⟨24, _⟩ => ⟨S512x512, .bf16⟩
  | .local _ .vmem, ⟨25, _⟩ => ⟨S512x1024, .f32⟩
  | .local _ .vmem, ⟨26, _⟩ => ⟨S512x1024, .f32⟩
  | .local _ .vmem, ⟨27, _⟩ => ⟨S512x1024, .bf16⟩
  | .local _ .vmem, ⟨28, _⟩ => ⟨S512x1024, .bf16⟩
  | .local _ .vmem, ⟨29, _⟩ => ⟨S512x128, .f32⟩
  | .local _ .vmem, ⟨30, _⟩ => ⟨S512x128, .f32⟩
  | .local _ .vmem, ⟨31, _⟩ => ⟨S1x1x128, .f32⟩
  | .local _ .vmem, ⟨32, _⟩ => ⟨S1x1x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_call0_v0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c_0 : Ref sig .tc := ⟨.hbm, 35, rfl⟩
abbrev main_call1_v0 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51_0 : Ref sig .tc := ⟨.hbm, 71, rfl⟩
abbrev main_v51_1 : Ref sig .tc := ⟨.hbm, 72, rfl⟩
abbrev main_v51_2 : Ref sig .tc := ⟨.hbm, 73, rfl⟩
abbrev main_v51_3 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg19_0 : Ref sig .tc := ⟨.vmem, 25, rfl⟩
abbrev cc0_stg19_1 : Ref sig .tc := ⟨.vmem, 26, rfl⟩
abbrev cc0_stg20_0 : Ref sig .tc := ⟨.vmem, 27, rfl⟩
abbrev cc0_stg20_1 : Ref sig .tc := ⟨.vmem, 28, rfl⟩
abbrev cc0_stg21_0 : Ref sig .tc := ⟨.vmem, 29, rfl⟩
abbrev cc0_stg21_1 : Ref sig .tc := ⟨.vmem, 30, rfl⟩
abbrev cc0_stg22_0 : Ref sig .tc := ⟨.vmem, 31, rfl⟩
abbrev cc0_stg22_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24
abbrev cc0_sem19_0 : DmaSem sig := 25
abbrev cc0_sem19_1 : DmaSem sig := 26
abbrev cc0_sem20_0 : DmaSem sig := 27
abbrev cc0_sem20_1 : DmaSem sig := 28
abbrev cc0_sem21_0 : DmaSem sig := 29
abbrev cc0_sem21_1 : DmaSem sig := 30
abbrev cc0_sem22_0 : DmaSem sig := 31
abbrev cc0_sem22_1 : DmaSem sig := 32

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x128 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S512x512 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x1x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== Reference3Ideal.lean ====
abbrev S32768x1024 : Shape := ⟨2, ![32768, 1024]⟩
abbrev S32768x512 : Shape := ⟨2, ![32768, 512]⟩
abbrev S32768x256 : Shape := ⟨2, ![32768, 256]⟩
abbrev S4x1024x5648 : Shape := ⟨3, ![4, 1024, 5648]⟩
abbrev S4x64 : Shape := ⟨2, ![4, 64]⟩
abbrev S4x512x1024 : Shape := ⟨3, ![4, 512, 1024]⟩
abbrev S4x256x1024 : Shape := ⟨3, ![4, 256, 1024]⟩
abbrev S4x1024x1024 : Shape := ⟨3, ![4, 1024, 1024]⟩
abbrev S4x1024 : Shape := ⟨2, ![4, 1024]⟩
abbrev S1024x32 : Shape := ⟨2, ![1024, 32]⟩
abbrev S32 : Shape := ⟨1, ![32]⟩
abbrev S32768x4x64 : Shape := ⟨3, ![32768, 4, 64]⟩
abbrev S_ : Shape := ⟨0, ![]⟩
abbrev S32768x4 : Shape := ⟨2, ![32768, 4]⟩
abbrev S32768x4x1 : Shape := ⟨3, ![32768, 4, 1]⟩
abbrev S1x64 : Shape := ⟨2, ![1, 64]⟩
abbrev S64 : Shape := ⟨1, ![64]⟩
abbrev S1x1x64 : Shape := ⟨3, ![1, 1, 64]⟩
abbrev S1x1024x5648 : Shape := ⟨3, ![1, 1024, 5648]⟩
abbrev S1024x5648 : Shape := ⟨2, ![1024, 5648]⟩
abbrev S1024x3072 : Shape := ⟨2, ![1024, 3072]⟩
abbrev S32768x3072 : Shape := ⟨2, ![32768, 3072]⟩
abbrev S1x512x1024 : Shape := ⟨3, ![1, 512, 1024]⟩
abbrev S512x1024 : Shape := ⟨2, ![512, 1024]⟩
abbrev S1x256x1024 : Shape := ⟨3, ![1, 256, 1024]⟩
abbrev S256x1024 : Shape := ⟨2, ![256, 1024]⟩
abbrev S1x1024x1024 : Shape := ⟨3, ![1, 1024, 1024]⟩
abbrev S1024x1024 : Shape := ⟨2, ![1024, 1024]⟩
abbrev S32768 : Shape := ⟨1, ![32768]⟩
abbrev S32768x1 : Shape := ⟨2, ![32768, 1]⟩
abbrev S1x1024 : Shape := ⟨2, ![1, 1024]⟩
abbrev S1024 : Shape := ⟨1, ![1024]⟩

abbrev nBuf : Space → Nat
  | .hbm => 116
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .f32⟩
  | .hbm, ⟨2, _⟩ => ⟨S32768x256, .f32⟩
  | .hbm, ⟨3, _⟩ => ⟨S32768x256, .f32⟩
  | .hbm, ⟨4, _⟩ => ⟨S32768x256, .f32⟩
  | .hbm, ⟨5, _⟩ => ⟨S32768x256, .f32⟩
  | .hbm, ⟨6, _⟩ => ⟨S4x1024x5648, .f32⟩
  | .hbm, ⟨7, _⟩ => ⟨S4x64, .f32⟩
  | .hbm, ⟨8, _⟩ => ⟨S4x512x1024, .f32⟩
  | .hbm, ⟨9, _⟩ => ⟨S4x256x1024, .f32⟩
  | .hbm, ⟨10, _⟩ => ⟨S4x256x1024, .f32⟩
  | .hbm, ⟨11, _⟩ => ⟨S4x1024x1024, .f32⟩
  | .hbm, ⟨12, _⟩ => ⟨S4x1024, .f32⟩
  | .hbm, ⟨13, _⟩ => ⟨S4x1024, .f32⟩
  | .hbm, ⟨14, _⟩ => ⟨S1024x32, .f32⟩
  | .hbm, ⟨15, _⟩ => ⟨S32, .f32⟩
  | .hbm, ⟨16, _⟩ => ⟨S32768x256, .f32⟩
  | .hbm, ⟨17, _⟩ => ⟨S32768x4x64, .f32⟩
  | .hbm, ⟨18, _⟩ => ⟨S32768x4x64, .f32⟩
  | .hbm, ⟨19, _⟩ => ⟨S_, .f32⟩
  | .hbm, ⟨20, _⟩ => ⟨S32768x4, .f32⟩
  | .hbm, ⟨21, _⟩ => ⟨S32768x4x1, .f32⟩
  | .hbm, ⟨22, _⟩ => ⟨S_, .f32⟩
  | .hbm, ⟨23, _⟩ => ⟨S32768x4x1, .f32⟩
  | .hbm, ⟨24, _⟩ => ⟨S32768x4x1, .f32⟩
  | .hbm, ⟨25, _⟩ => ⟨S_, .f32⟩
  | .hbm, ⟨26, _⟩ => ⟨S32768x4x1, .f32⟩
  | .hbm, ⟨27, _⟩ => ⟨S32768x4x1, .f32⟩
  | .hbm, ⟨28, _⟩ => ⟨S32768x4x1, .f32⟩
  | .hbm, ⟨29, _⟩ => ⟨S32768x4x64, .f32⟩
  | .hbm, ⟨30, _⟩ => ⟨S32768x4x64, .f32⟩
  | .hbm, ⟨31, _⟩ => ⟨S1x64, .f32⟩
  | .hbm, ⟨32, _⟩ => ⟨S64, .f32⟩
  | .hbm, ⟨33, _⟩ => ⟨S1x1x64, .f32⟩
  | .hbm, ⟨34, _⟩ => ⟨S32768x4x64, .f32⟩
  | .hbm, ⟨35, _⟩ => ⟨S32768x4x64, .f32⟩
  | .hbm, ⟨36, _⟩ => ⟨S32768x4x64, .f32⟩
  | .hbm, ⟨37, _⟩ => ⟨S32768x4x64, .f32⟩
  | .hbm, ⟨38, _⟩ => ⟨S32768x4x64, .f32⟩
  | .hbm, ⟨39, _⟩ => ⟨S_, .f32⟩
  | .hbm, ⟨40, _⟩ => ⟨S32768x4x64, .f32⟩
  | .hbm, ⟨41, _⟩ => ⟨S32768x4x64, .f32⟩
  | .hbm, ⟨42, _⟩ => ⟨S_, .f32⟩
  | .hbm, ⟨43, _⟩ => ⟨S32768x4x64, .f32⟩
  | .hbm, ⟨44, _⟩ => ⟨S32768x4x64, .f32⟩
  | .hbm, ⟨45, _⟩ => ⟨S32768x4x64, .f32⟩
  | .hbm, ⟨46, _⟩ => ⟨S32768x4x64, .f32⟩
  | .hbm, ⟨47, _⟩ => ⟨S32768x256, .f32⟩
  | .hbm, ⟨48, _⟩ => ⟨S1x1024x5648, .f32⟩
  | .hbm, ⟨49, _⟩ => ⟨S1024x5648, .f32⟩
  | .hbm, ⟨50, _⟩ => ⟨S1024x3072, .f32⟩
  | .hbm, ⟨51, _⟩ => ⟨S32768x3072, .f32⟩
  | .hbm, ⟨52, _⟩ => ⟨S32768x3072, .f32⟩
  | .hbm, ⟨53, _⟩ => ⟨S32768x3072, .f32⟩
  | .hbm, ⟨54, _⟩ => ⟨S_, .f32⟩
  | .hbm, ⟨55, _⟩ => ⟨S32768x3072, .f32⟩
  | .hbm, ⟨56, _⟩ => ⟨S32768x3072, .f32⟩
  | .hbm, ⟨57, _⟩ => ⟨S_, .f32⟩
  | .hbm, ⟨58, _⟩ => ⟨S32768x3072, .f32⟩
  | .hbm, ⟨59, _⟩ => ⟨S32768x3072, .f32⟩
  | .hbm, ⟨60, _⟩ => ⟨S32768x1024, .f32⟩
  | .hbm, ⟨61, _⟩ => ⟨S32768x1024, .f32⟩
  | .hbm, ⟨62, _⟩ => ⟨S32768x1024, .f32⟩
  | .hbm, ⟨63, _⟩ => ⟨S1x512x1024, .f32⟩
  | .hbm, ⟨64, _⟩ => ⟨S512x1024, .f32⟩
  | .hbm, ⟨65, _⟩ => ⟨S32768x1024, .f32⟩
  | .hbm, ⟨66, _⟩ => ⟨S32768x1024, .f32⟩
  | .hbm, ⟨67, _⟩ => ⟨S1x256x1024, .f32⟩
  | .hbm, ⟨68, _⟩ => ⟨S256x1024, .f32⟩
  | .hbm, ⟨69, _⟩ => ⟨S32768x1024, .f32⟩
  | .hbm, ⟨70, _⟩ => ⟨S32768x1024, .f32⟩
  | .hbm, ⟨71, _⟩ => ⟨S32768x1024, .f32⟩
  | .hbm, ⟨72, _⟩ => ⟨S1x256x1024, .f32⟩
  | .hbm, ⟨73, _⟩ => ⟨S256x1024, .f32⟩
  | .hbm, ⟨74, _⟩ => ⟨S32768x1024, .f32⟩
  | .hbm, ⟨75, _⟩ => ⟨S32768x1024, .f32⟩
  | .hbm, ⟨76, _⟩ => ⟨S32768x1024, .f32⟩
  | .hbm, ⟨77, _⟩ => ⟨S_, .f32⟩
  | .hbm, ⟨78, _⟩ => ⟨S32768x1024, .f32⟩
  | .hbm, ⟨79, _⟩ => ⟨S32768x1024, .f32⟩
  | .hbm, ⟨80, _⟩ => ⟨S1x1024x1024, .f32⟩
  | .hbm, ⟨81, _⟩ => ⟨S1024x1024, .f32⟩
  | .hbm, ⟨82, _⟩ => ⟨S32768x1024, .f32⟩
  | .hbm, ⟨83, _⟩ => ⟨S32768x1024, .f32⟩
  | .hbm, ⟨84, _⟩ => ⟨S_, .f32⟩
  | .hbm, ⟨85, _⟩ => ⟨S32768, .f32⟩
  | .hbm, ⟨86, _⟩ => ⟨S32768x1, .f32⟩
  | .hbm, ⟨87, _⟩ => ⟨S_, .f32⟩
  | .hbm, ⟨88, _⟩ => ⟨S32768x1, .f32⟩
  | .hbm, ⟨89, _⟩ => ⟨S32768x1, .f32⟩
  | .hbm, ⟨90, _⟩ => ⟨S32768x1024, .f32⟩
  | .hbm, ⟨91, _⟩ => ⟨S32768x1024, .f32⟩
  | .hbm, ⟨92, _⟩ => ⟨S32768x1024, .f32⟩
  | .hbm, ⟨93, _⟩ => ⟨S_, .f32⟩
  | .hbm, ⟨94, _⟩ => ⟨S32768, .f32⟩
  | .hbm, ⟨95, _⟩ => ⟨S32768x1, .f32⟩
  | .hbm, ⟨96, _⟩ => ⟨S_, .f32⟩
  | .hbm, ⟨97, _⟩ => ⟨S32768x1, .f32⟩
  | .hbm, ⟨98, _⟩ => ⟨S32768x1, .f32⟩
  | .hbm, ⟨99, _⟩ => ⟨S_, .f32⟩
  | .hbm, ⟨100, _⟩ => ⟨S32768x1, .f32⟩
  | .hbm, ⟨101, _⟩ => ⟨S32768x1, .f32⟩
  | .hbm, ⟨102, _⟩ => ⟨S32768x1, .f32⟩
  | .hbm, ⟨103, _⟩ => ⟨S32768x1024, .f32⟩
  | .hbm, ⟨104, _⟩ => ⟨S32768x1024, .f32⟩
  | .hbm, ⟨105, _⟩ => ⟨S1x1024, .f32⟩
  | .hbm, ⟨106, _⟩ => ⟨S1024, .f32⟩
  | .hbm, ⟨107, _⟩ => ⟨S1x1024, .f32⟩
  | .hbm, ⟨108, _⟩ => ⟨S32768x1024, .f32⟩
  | .hbm, ⟨109, _⟩ => ⟨S32768x1024, .f32⟩
  | .hbm, ⟨110, _⟩ => ⟨S1x1024, .f32⟩
  | .hbm, ⟨111, _⟩ => ⟨S1024, .f32⟩
  | .hbm, ⟨112, _⟩ => ⟨S1x1024, .f32⟩
  | .hbm, ⟨113, _⟩ => ⟨S32768x1024, .f32⟩
  | .hbm, ⟨114, _⟩ => ⟨S32768x1024, .f32⟩
  | .hbm, ⟨115, _⟩ => ⟨S32768x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_cst_1 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_cst_2 : Ref sig .tc := ⟨.hbm, 54, rfl⟩
abbrev main_v27 : Ref sig .tc := ⟨.hbm, 55, rfl⟩
abbrev main_v28 : Ref sig .tc := ⟨.hbm, 56, rfl⟩
abbrev main_cst_3 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_4 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_5 : Ref sig .tc := ⟨.hbm, 84, rfl⟩
abbrev main_v54 : Ref sig .tc := ⟨.hbm, 85, rfl⟩
abbrev main_v55 : Ref sig .tc := ⟨.hbm, 86, rfl⟩
abbrev main_cst_6 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_7 : Ref sig .tc := ⟨.hbm, 93, rfl⟩
abbrev main_v61 : Ref sig .tc := ⟨.hbm, 94, rfl⟩
abbrev main_v62 : Ref sig .tc := ⟨.hbm, 95, rfl⟩
abbrev main_cst_8 : Ref sig .tc := ⟨.hbm, 96, rfl⟩
abbrev main_v63 : Ref sig .tc := ⟨.hbm, 97, rfl⟩
abbrev main_v64 : Ref sig .tc := ⟨.hbm, 98, rfl⟩
abbrev main_cst_9 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩

abbrev nD : Nat := 1
abbrev τ : Topo := Topo.v7x

variable {F : FTy → Type} [FloatOps F]
-- ==== Proof.Moe.Body.lean ====
/-
  The expert MLP's kernel body, run once at symbolic staging buffers.

  The tile's expert weights are copied into three scratch buffers at the first tile of each expert; a tile below the
  valid count gets the MLP of its rows with those weights, a tile beyond it gets zeros.
-/
module

public import proofs.«01_k».proof.Proof.Gen.Kernel2.Launch
public import proofs.«01_k».proof.Proof.Gen.Kernel2.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.Moe

open Cert.Kernel2 Cert.Kernel2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

/-- A tile is the first of its expert: the first of all, or its table word differs from the one before. -/
def fresh (i : grid0.Coords) (a b : BitVec 32) : BitVec 1 :=
  Scalar.cmpi .ne (Scalar.extui (Scalar.ori (Scalar.cmpi .eq (BitVec.ofNat 32 (i 0).val) 0#32) (Scalar.cmpi .ne a b)) : BitVec 32) 0#32

/-- The table word at an offset. -/
def word (te : (main_v60 : Ref sig .tc).ty.Contents (Elt F)) (off : Fin 1 → ℕ) (h : ∀ a, off a + S1.size a ≤ S288.size a) : BitVec 32 :=
  te ((Rect.unit (s := S288) off S1.size h).emb (Shape.Idx.first (numel1_S1.symm ▸ Nat.one_pos)))

/-- The number of valid tiles. -/
def count (nv : (main_v64 : Ref sig .tc).ty.Contents (Elt F)) : BitVec 32 := nv (fun a => ⟨0, by fin_cases a; decide⟩)

/-- The condition under which the tile at `i` reloads its expert's weights. -/
abbrev reload (te : (main_v60 : Ref sig .tc).ty.Contents (Elt F)) (i : grid0.Coords) : BitVec 1 :=
  fresh i (word te (k0_off1 i) (k0_off1_inb i)) (word te (k0_off2 i) (k0_off2_inb i))

/-- A tile is below the valid count or not below it. -/
theorem cond3_iff (i : grid0.Coords) (n : BitVec 32) : k0_cond3 i n = 1#1 ↔ ¬ k0_cond2 i n = 1#1 := by
  unfold k0_cond3 k0_cond2
  show IntOp.cmpi .ne ((IntOp.cmpi .sge (BitVec.ofNat 32 (i 0).val) n).setWidth 32) 0#32 = 1#1
    ↔ ¬ IntOp.cmpi .ne ((IntOp.cmpi .slt (BitVec.ofNat 32 (i 0).val) n).setWidth 32) 0#32 = 1#1
  rw [WordCmp.cmpi_sge_eq, WordCmp.cmpi_slt_eq]
  by_cases h : (BitVec.ofNat 32 (i 0).val).toInt < n.toInt
  · rw [decide_eq_true h, decide_eq_false (not_le.mpr h)]; decide
  · rw [decide_eq_false h, decide_eq_true (not_lt.mp h)]; decide

/-- What the body leaves in the result's buffer. -/
def left (i : grid0.Coords) (n : BitVec 32) (x : Vec F S256x1024 .bf16) (s0 s1 : Vec F S1024x512 .bf16) (s2 : Vec F S512x1024 .bf16) : Vec F S256x1024 .bf16 :=
  if k0_cond2 i n = 1#1 then k0_pay4 x s0 s1 s2 else k0_pay5

/-- A buffer stored whole under a condition reads the payload or what it held. -/
theorem read_ite {sig : RefSig} {κ : Kind} {sp : Space} {s : Shape} {e : EltTy} (v : View sig κ sp s e) (p : Prop) [Decidable p]
    (f : v.ty.Contents (Elt F)) {off : Fin s.rank → ℕ} (inb : ∀ a, off a + s.size a ≤ s.size a) (w : (Rect.unit off s.size inb).shape.Idx → Elt F e) :
    v.read (Elt F) (if _ : p then v.writes (Elt F) f [⟨Rect.unit off s.size inb, w⟩] else f) = if p then w else v.read (Elt F) f := by
  by_cases h : p
  · rw [dif_pos h, if_pos h, View.read_writes_full]
  · rw [dif_neg h, if_neg h]

/-- The table's buffer held at half the share. -/
abbrev tbPt (c : Dev nD) {S : Shape} {e : EltTy} (M : Memref sig .tc .smem S e) (f : Buf (Elt F) (M.view.loc (c : Thread nD τ))) : sProp 𝕄 :=
  M.view.loc (c : Thread nD τ) ↦{fullShare.right} f

set_option maxHeartbeats 1000000 in
/-- The body at symbolic buffers: the tables and the four blocks as they were, the scratch buffers at the expert's weights where
    the tile reloads them and as they were elsewhere, the result's buffer at what `left` says of them. -/
theorem sound_kernel (c : Dev nD) (E : Set ℕ) (i : grid0.Coords)
    (arg3 : Memref sig .tc .vmem S256x1024 .bf16) (harg3 : arg3.IsWhole) (arg4 : Memref sig .tc .vmem S1x1x1024x512 .f32) (harg4 : arg4.IsWhole)
    (arg5 : Memref sig .tc .vmem S1x1x1024x512 .f32) (harg5 : arg5.IsWhole) (arg6 : Memref sig .tc .vmem S1x1x512x1024 .f32) (harg6 : arg6.IsWhole)
    (arg7 : Memref sig .tc .vmem S256x1024 .bf16) (harg7 : arg7.IsWhole)
    (te : (main_v60 : Ref sig .tc).ty.Contents (Elt F)) (nv : (main_v64 : Ref sig .tc).ty.Contents (Elt F))
    (x : Vec F S256x1024 .bf16) (w1 w3 : Vec F S1x1x1024x512 .f32) (w2 : Vec F S1x1x512x1024 .f32)
    (s0 s1 : Vec F S1024x512 .bf16) (s2 : Vec F S512x1024 .bf16) (K : PUnit → sProp 𝕄) :
    iprop(tbPt c (Memref.whole main_v60) te ∗ tbPt c (Memref.whole main_v64) nv
        ∗ owns (c : Thread nD τ) arg3 fullShare x ∗ owns (c : Thread nD τ) arg4 fullShare w1 ∗ owns (c : Thread nD τ) arg5 fullShare w3
        ∗ owns (c : Thread nD τ) arg6 fullShare w2 ∗ (∃ d, owns (c : Thread nD τ) arg7 fullShare d)
        ∗ owns (c : Thread nD τ) (Memref.whole cc0_scratch0) fullShare s0 ∗ owns (c : Thread nD τ) (Memref.whole cc0_scratch1) fullShare s1
        ∗ owns (c : Thread nD τ) (Memref.whole cc0_scratch2) fullShare s2
        ∗ (iprop(tbPt c (Memref.whole main_v60) te ∗ tbPt c (Memref.whole main_v64) nv
            ∗ owns (c : Thread nD τ) arg3 fullShare x ∗ owns (c : Thread nD τ) arg4 fullShare w1 ∗ owns (c : Thread nD τ) arg5 fullShare w3
            ∗ owns (c : Thread nD τ) arg6 fullShare w2
            ∗ owns (c : Thread nD τ) arg7 fullShare (left i (count nv) x (if reload te i = 1#1 then k0_pay1 w1 else s0)
                (if reload te i = 1#1 then k0_pay2 w3 else s1) (if reload te i = 1#1 then k0_pay3 w2 else s2))
            ∗ owns (c : Thread nD τ) (Memref.whole cc0_scratch0) fullShare (if reload te i = 1#1 then k0_pay1 w1 else s0)
            ∗ owns (c : Thread nD τ) (Memref.whole cc0_scratch1) fullShare (if reload te i = 1#1 then k0_pay2 w3 else s1)
            ∗ owns (c : Thread nD τ) (Memref.whole cc0_scratch2) fullShare (if reload te i = 1#1 then k0_pay3 w2 else s2)) -∗ K ⟨⟩))
      ⊢ wp frame (wpE (defs₀ (F := F)) Variants.none c none) E
        (cc0_expert_mlp i (Memref.whole main_v60) (Memref.isWhole_whole _) (Memref.whole main_v64) (Memref.isWhole_whole _) arg3 harg3 arg4 harg4 arg5 harg5 arg6 harg6 arg7 harg7
          (Memref.whole cc0_scratch0) (Memref.isWhole_whole _) (Memref.whole cc0_scratch1) (Memref.isWhole_whole _) (Memref.whole cc0_scratch2) (Memref.isWhole_whole _)) K := by
  simp only [cc0_expert_mlp_eq_skeleton]; unfold cc0_expert_mlp_skel
  unfold owns
  iintro ⟨T1, T2, ⟨%f0, %hf0, H0⟩, ⟨%f1, %hf1, H1⟩, ⟨%f2, %hf2, H2⟩, ⟨%f3, %hf3, H3⟩, ⟨%d4, %f4, -, H4⟩, ⟨%g0, %hg0, G0⟩, ⟨%g1, %hg1, G1⟩, ⟨%g2, %hg2, G2⟩, Hk⟩
  subst hf0 hf1 hf2 hf3 hg0 hg1 hg2
  sl_exec
  sl_step
  iapply Hk
  isplitl [T1]; · iexact T1
  isplitl [T2]; · iexact T2
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  have hr : sound_kernel.sl.v10 i te = reload te i := rfl
  have hn : sound_kernel.sl.r_2 nv = count nv := congrArg nv (funext fun a => by fin_cases a; rfl)
  have r0 : sound_kernel.sl.v21 c i arg4 te f1 g0 = if reload te i = 1#1 then k0_pay1 (arg4.view.read (Elt F) f1) else (Memref.whole cc0_scratch0).view.read (Elt F) g0 := by
    unfold sound_kernel.sl.v21
    rw [hr, View.readAt_full]
    exact (View.readAt_full _ _ _).trans (read_ite _ _ _ _ _)
  have r1 : sound_kernel.sl.v31 c i arg5 te f2 g1 = if reload te i = 1#1 then k0_pay2 (arg5.view.read (Elt F) f2) else (Memref.whole cc0_scratch1).view.read (Elt F) g1 := by
    unfold sound_kernel.sl.v31
    rw [hr, View.readAt_full]
    exact (View.readAt_full _ _ _).trans (read_ite _ _ _ _ _)
  have r2 : sound_kernel.sl.v35 c i arg6 te f3 g2 = if reload te i = 1#1 then k0_pay3 (arg6.view.read (Elt F) f3) else (Memref.whole cc0_scratch2).view.read (Elt F) g2 := by
    unfold sound_kernel.sl.v35
    rw [hr, View.readAt_full]
    exact (View.readAt_full _ _ _).trans (read_ite _ _ _ _ _)
  isplitl [H4]
  · iexists _; isplitr
    swap; · iexact H4
    ipureintro
    rw [hn, r0, r1, r2]
    unfold left
    by_cases h2 : k0_cond2 i (count nv) = 1#1
    · have h3 := (cond3_iff i (count nv)).not.mpr (not_not.mpr h2)
      rw [dif_neg h3, dif_pos h2, if_pos h2, View.read_writes_full, View.readAt_full]
    · have h3 := (cond3_iff i (count nv)).mpr h2
      rw [dif_pos h3, if_neg h2, View.read_writes_full]
  isplitl [G0]
  · iexists _; isplitr
    swap; · iexact G0
    ipureintro
    rw [hr, View.readAt_full]
    exact read_ite _ _ _ _ _
  isplitl [G1]
  · iexists _; isplitr
    swap; · iexact G1
    ipureintro
    rw [hr, View.readAt_full]
    exact read_ite _ _ _ _ _
  iexists _; isplitr
  swap; · iexact G2
  ipureintro
  rw [hr, View.readAt_full]
  exact read_ite _ _ _ _ _

end Cert.Moe

end
-- ==== Proof.Moe.Frame.lean ====
/-
  The expert MLP's pipeline at any tables whose words name an expert: what every staging buffer and scratch buffer holds at
  every tile, the body's obligation, and the run. After each tile the three scratch buffers hold that tile's expert's weights
  (a tile that does not reload them has the expert of the tile before), so the result's block is one function of the tile's
  four blocks and the valid count.
-/
module

public import proofs.«01_k».proof.Proof.Moe.Body
public import Idealize.ShloMosaic.Lib.Pipeline.Frame
public import Idealize.ShloMosaic.Lib.Pipeline.FrameSuffix

@[expose] public section

set_option maxRecDepth 16384

noncomputable section

namespace Cert.Moe

open Cert.Kernel2 Cert.Kernel2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

/-! `m` is what the buffers hold when the region is entered, whatever it is. -/

variable (m : Dev nD → Valuation τ sig (Elt F))

/-- The TensorCore's buffers when the region is entered. -/
abbrev V (c : Dev nD) (b : Ref sig .tc) : Buf (Elt F) ((c : Thread nD τ).loc b) := m c (Proc.devRef .tc b)

/-- The tables' contents (the program runs on one device). -/
def tbl : pre0.Contents (Elt F) := fun j => V m (0 : Dev nD) (pre0.ref j)

theorem V_pre (c : Dev nD) (j : Fin 2) : V m c (pre0.ref j) = tbl m j := by
  obtain rfl : c = 0 := Subsingleton.elim _ _; rfl

/-- Every tile's expert has its weights inside the arrays. -/
abbrev Ok : Prop := ok0 (F := F) (tbl m)

/-- The pipeline at the tables. -/
abbrev adm (hO : Ok m) : (pcfg0 (F := F)).Adm := ⟨tbl m, hO⟩
abbrev cfgM (hO : Ok m) : Pipeline.Cfg sig Λ₀ := cfg0 (adm m hO)

/-- The tables, typed as the body is handed them. -/
abbrev teT : (main_v60 : Ref sig .tc).ty.Contents (Elt F) := tbl m 0
abbrev nvT : (main_v64 : Ref sig .tc).ty.Contents (Elt F) := tbl m 1

variable (hO : Ok m)

/-- Window `w`'s block at tile `t`. -/
abbrev iblk (c : Dev nD) (w : Fin (cfgM m hO).W) (t : Fin (cfgM m hO).N) :=
  (((cfgM m hO).win w).blk t).view.read (Elt F) (V m c (Pipeline.arrRef spec0 w))

/-- What the result's staging buffer holds after tile `t`. -/
def out (c : Dev nD) (t : Fin (cfgM m hO).N) : Vec F S256x1024 .bf16 :=
  left (grid0.coords t) (count (nvT m)) (iblk m hO c 0 t) (k0_pay1 (iblk m hO c 1 t)) (k0_pay2 (iblk m hO c 2 t)) (k0_pay3 (iblk m hO c 3 t))

/-- The scratch buffers before position `p`: after a tile, that tile's expert's weights. -/
def scratch (c : Dev nD) (p : Fin ((cfgM m hO).N + 1)) : sProp 𝕄 :=
  iprop(∃ (s0 : Vec F S1024x512 .bf16) (s1 : Vec F S1024x512 .bf16) (s2 : Vec F S512x1024 .bf16),
    ⌜∀ t : Fin (cfgM m hO).N, t.val + 1 = p.val →
      s0 = k0_pay1 (iblk m hO c 1 t) ∧ s1 = k0_pay2 (iblk m hO c 2 t) ∧ s2 = k0_pay3 (iblk m hO c 3 t)⌝
    ∗ owns (c : Thread nD τ) (Memref.whole cc0_scratch0) fullShare s0
    ∗ owns (c : Thread nD τ) (Memref.whole cc0_scratch1) fullShare s1
    ∗ owns (c : Thread nD τ) (Memref.whole cc0_scratch2) fullShare s2)

/-- The proof data: every input's buffer at its block, the result's at `out`, the scratch buffers tracked. -/
def dats (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => out m hO c t
  Φ p := iprop(scratch m hO c p ∗ (∃ r, prngReg c r) ∗ Pipeline.ΦT pre0 (tbl m) c)
  q _ := fullShare
  owed _ := 0

theorem A_eq (c : Dev nD) (w : Fin (cfgM m hO).W) : (dats m hO 0 c).A w = V m c (Pipeline.arrRef spec0 w) := by
  dsimp only [dats]

theorem after_0 (c : Dev nD) (t : Fin (cfgM m hO).N) : (dats m hO 0 c).after 0 t = iblk m hO c 0 t := by dsimp only [dats]; rfl
theorem after_1 (c : Dev nD) (t : Fin (cfgM m hO).N) : (dats m hO 0 c).after 1 t = iblk m hO c 1 t := by dsimp only [dats]; rfl
theorem after_2 (c : Dev nD) (t : Fin (cfgM m hO).N) : (dats m hO 0 c).after 2 t = iblk m hO c 2 t := by dsimp only [dats]; rfl
theorem after_3 (c : Dev nD) (t : Fin (cfgM m hO).N) : (dats m hO 0 c).after 3 t = iblk m hO c 3 t := by dsimp only [dats]; rfl
theorem after_4 (c : Dev nD) (t : Fin (cfgM m hO).N) : (dats m hO 0 c).after 4 t = out m hO c t := by dsimp only [dats]; rfl

/-- What a fetch of an input brings is its block. -/
theorem fetched_eq (c : Dev nD) (w : Fin 5) (hw : w ≠ 4) (t : Fin (cfgM m hO).N) (d) :
    (dats m hO 0 c).fetched w t d = iblk m hO c w t := by
  unfold Dat.fetched Dat.blockOf iblk; rw [A_eq]; fin_cases w <;> first | rfl | exact absurd rfl hw

theorem before_0 (c : Dev nD) (t : Fin (cfgM m hO).N) (d) : (dats m hO 0 c).before 0 t d = iblk m hO c 0 t :=
  ((dats m hO 0 c).before_in_eq_fetched 0 rfl (fun _ => rfl) (fun _ _ _ => rfl)
    (fun t => by rw [after_0]; unfold Dat.blockOf iblk; rw [A_eq]; try rfl) t d).trans (fetched_eq m hO c (0 : Fin 5) (show (0 : Fin 5) ≠ 4 by decide) t _)
theorem before_1 (c : Dev nD) (t : Fin (cfgM m hO).N) (d) : (dats m hO 0 c).before 1 t d = iblk m hO c 1 t :=
  ((dats m hO 0 c).before_in_eq_fetched 1 rfl (fun _ => rfl) (fun _ _ _ => rfl)
    (fun t => by rw [after_1]; unfold Dat.blockOf iblk; rw [A_eq]; try rfl) t d).trans (fetched_eq m hO c (1 : Fin 5) (show (1 : Fin 5) ≠ 4 by decide) t _)
theorem before_2 (c : Dev nD) (t : Fin (cfgM m hO).N) (d) : (dats m hO 0 c).before 2 t d = iblk m hO c 2 t :=
  ((dats m hO 0 c).before_in_eq_fetched 2 rfl (fun _ => rfl) (fun _ _ _ => rfl)
    (fun t => by rw [after_2]; unfold Dat.blockOf iblk; rw [A_eq]; try rfl) t d).trans (fetched_eq m hO c (2 : Fin 5) (show (2 : Fin 5) ≠ 4 by decide) t _)
theorem before_3 (c : Dev nD) (t : Fin (cfgM m hO).N) (d) : (dats m hO 0 c).before 3 t d = iblk m hO c 3 t :=
  ((dats m hO 0 c).before_in_eq_fetched 3 rfl (fun _ => rfl) (fun _ _ _ => rfl)
    (fun t => by rw [after_3]; unfold Dat.blockOf iblk; rw [A_eq]; try rfl) t d).trans (fetched_eq m hO c (3 : Fin 5) (show (3 : Fin 5) ≠ 4 by decide) t _)

/-! ## A tile that keeps the weights -/

theorem coords_val : ∀ t : Fin grid0.N, (grid0.coords t 0).val = t.val := by decide +kernel
theorem off1_val : ∀ t : Fin grid0.N, k0_off1 (grid0.coords t) 0 = t.val := by decide +kernel
theorem off2_val : ∀ t : Fin grid0.N, k0_off2 (grid0.coords t) 0 = t.val - 1 := by decide +kernel

theorem word_congr (te : (main_v60 : Ref sig .tc).ty.Contents (Elt F)) {o o' : Fin 1 → ℕ} (h h') (e : o = o') : word te o h = word te o' h' := by
  subst e; rfl

/-- A tile that is not the first of its expert follows a tile with the same table word. -/
theorem keep {te : (main_v60 : Ref sig .tc).ty.Contents (Elt F)} {t : Fin grid0.N} (h : ¬ reload te (grid0.coords t) = 1#1) :
    ∃ t' : Fin grid0.N, t'.val + 1 = t.val ∧
      word te (k0_off1 (grid0.coords t)) (k0_off1_inb _) = word te (k0_off1 (grid0.coords t')) (k0_off1_inb _) := by
  unfold reload at h
  have hz : BitVec.ofNat 32 (grid0.coords t 0).val ≠ 0#32 ∧
      word te (k0_off1 (grid0.coords t)) (k0_off1_inb _) = word te (k0_off2 (grid0.coords t)) (k0_off2_inb _) := by
    generalize word te (k0_off1 (grid0.coords t)) (k0_off1_inb _) = a at h ⊢
    generalize word te (k0_off2 (grid0.coords t)) (k0_off2_inb _) = b at h ⊢
    unfold fresh at h
    simp only [Scalar.cmpi, Scalar.extui, Scalar.ori, WordCmp.cmpi_ne_eq, WordCmp.cmpi_eq_eq, WordCmp.ori_ofBool] at h
    by_cases h1 : BitVec.ofNat 32 (grid0.coords t 0).val = 0#32
    · exact absurd (by simp [h1]) h
    · by_cases h2 : a = b
      · exact ⟨h1, h2⟩
      · exact absurd (by simp [h2]) h
  have h0 : t.val ≠ 0 := fun e => hz.1 (by rw [coords_val, e])
  refine ⟨⟨t.val - 1, by omega⟩, Nat.sub_add_cancel (Nat.pos_of_ne_zero h0), hz.2.trans (word_congr _ _ _ ?_)⟩
  funext a
  obtain rfl : a = 0 := Subsingleton.elim _ _
  rw [off1_val, off2_val]

/-- Two tiles with one table word have the same weight blocks. -/
theorem iblk_eq (c : Dev nD) (w : Fin 5) (h0 : w ≠ 0) (h4 : w ≠ 4) {t t' : Fin (cfgM m hO).N}
    (h : word (teT m) (k0_off1 (grid0.coords t)) (k0_off1_inb _) = word (teT m) (k0_off1 (grid0.coords t')) (k0_off1_inb _)) :
    iblk m hO c w t = iblk m hO c w t' := by
  refine (fetched_eq m hO c w h4 t (iblk m hO c w t)).symm.trans (((dats m hO 0 c).fetched_congr w ?_ ?_ _).trans (fetched_eq m hO c w h4 t' _))
  · fin_cases w
    · exact absurd rfl h0
    · exact congrArg (fun x : BitVec 32 => (![0, x.toNat, 0, 0] : Fin 4 → Nat)) h
    · exact congrArg (fun x : BitVec 32 => (![0, x.toNat, 0, 0] : Fin 4 → Nat)) h
    · exact congrArg (fun x : BitVec 32 => (![0, x.toNat, 0, 0] : Fin 4 → Nat)) h
    · exact absurd rfl h4
  · rfl

/-- What the scratch buffers hold after tile `t`, from what they held before it. -/
theorem scratch_step (c : Dev nD) (t : Fin (cfgM m hO).N) (s0 : Vec F S1024x512 .bf16) (s1 : Vec F S1024x512 .bf16) (s2 : Vec F S512x1024 .bf16)
    (h : ∀ t' : Fin (cfgM m hO).N, t'.val + 1 = t.castSucc.val →
      s0 = k0_pay1 (iblk m hO c 1 t') ∧ s1 = k0_pay2 (iblk m hO c 2 t') ∧ s2 = k0_pay3 (iblk m hO c 3 t')) :
    (if reload (teT m) (grid0.coords t) = 1#1 then k0_pay1 (iblk m hO c 1 t) else s0) = k0_pay1 (iblk m hO c 1 t)
    ∧ (if reload (teT m) (grid0.coords t) = 1#1 then k0_pay2 (iblk m hO c 2 t) else s1) = k0_pay2 (iblk m hO c 2 t)
    ∧ (if reload (teT m) (grid0.coords t) = 1#1 then k0_pay3 (iblk m hO c 3 t) else s2) = k0_pay3 (iblk m hO c 3 t) := by
  by_cases hr : reload (teT m) (grid0.coords t) = 1#1
  · exact ⟨if_pos hr, if_pos hr, if_pos hr⟩
  · obtain ⟨t', ht, hw⟩ := keep hr
    obtain ⟨e0, e1, e2⟩ := h t' ht
    refine ⟨(if_neg hr).trans (e0.trans ?_), (if_neg hr).trans (e1.trans ?_), (if_neg hr).trans (e2.trans ?_)⟩
    · exact congrArg k0_pay1 (iblk_eq m hO c 1 (by decide) (by decide) hw.symm)
    · exact congrArg k0_pay2 (iblk_eq m hO c 2 (by decide) (by decide) hw.symm)
    · exact congrArg k0_pay3 (iblk_eq m hO c 3 (by decide) (by decide) hw.symm)

/-! ## The body's obligation -/

/-- The tables between tiles, one by one. -/
theorem tables_eq (c : Dev nD) : (Pipeline.ΦT pre0 (tbl m) c : sProp 𝕄)
    = iprop(tbPt c (Memref.whole main_v60) (teT m) ∗ tbPt c (Memref.whole main_v64) (nvT m)) := by
  unfold Pipeline.ΦT Pipeline.prefHeld
  rw [show (Finset.univ : Finset (Fin 2)) = insert (0 : Fin 2) {(1 : Fin 2)} from by decide, bigSep_insert (by decide), bigSep_singleton]
  rfl

/-- The staging buffers at tile `t`. -/
abbrev st (t : Fin (cfgM m hO).N) (w : Fin (cfgM m hO).W) := ((cfgM m hO).win w).stage ((cfgM m hO).slots t w)

/-- The body at tile `t`, at its staging buffers. -/
abbrev bodyAt (t : Fin (cfgM m hO).N) := (defs₀ (F := F)) .tc (cfgM m hO).body ((cfgM m hO).bodyArgs t ((cfgM m hO).slots t))

theorem bodyAt_eq (t : Fin (cfgM m hO).N) : bodyAt m hO t
    = cc0_expert_mlp (grid0.coords t) (Memref.whole main_v60) (Memref.isWhole_whole _) (Memref.whole main_v64) (Memref.isWhole_whole _)
        (spec0_0.stage ((cfgM m hO).slots t 0)) (hstage0_0 (((cfgM m hO).slots t 0).cast nbuf0_0))
        (spec0_1.stage ((cfgM m hO).slots t 1)) (hstage0_1 (((cfgM m hO).slots t 1).cast nbuf0_1))
        (spec0_2.stage ((cfgM m hO).slots t 2)) (hstage0_2 (((cfgM m hO).slots t 2).cast nbuf0_2))
        (spec0_3.stage ((cfgM m hO).slots t 3)) (hstage0_3 (((cfgM m hO).slots t 3).cast nbuf0_3))
        (spec0_4.stage ((cfgM m hO).slots t 4)) (hstage0_4 (((cfgM m hO).slots t 4).cast nbuf0_4))
        (Memref.whole cc0_scratch0) (Memref.isWhole_whole _) (Memref.whole cc0_scratch1) (Memref.isWhole_whole _) (Memref.whole cc0_scratch2) (Memref.isWhole_whole _) := by
  unfold bodyAt defs₀; rw [Defs.onTc_tc]

def bodyPre (c : Dev nD) (t : Fin (cfgM m hO).N) : sProp 𝕄 :=
  iprop((dats m hO 0 c).Φ t.castSucc ∗ (dats m hO 0 c).owesAt () t.castSucc
    ∗ (∃ d, owns (c : Thread nD τ) (st m hO t 0) fullShare ((dats m hO 0 c).before 0 t d))
    ∗ (∃ d, owns (c : Thread nD τ) (st m hO t 1) fullShare ((dats m hO 0 c).before 1 t d))
    ∗ (∃ d, owns (c : Thread nD τ) (st m hO t 2) fullShare ((dats m hO 0 c).before 2 t d))
    ∗ (∃ d, owns (c : Thread nD τ) (st m hO t 3) fullShare ((dats m hO 0 c).before 3 t d))
    ∗ (∃ d, owns (c : Thread nD τ) (st m hO t 4) fullShare ((dats m hO 0 c).before 4 t d)))

def bodyPost (c : Dev nD) (t : Fin (cfgM m hO).N) : sProp 𝕄 :=
  iprop((dats m hO 0 c).Φ t.succ ∗ (dats m hO 0 c).owesAt () t.succ
    ∗ owns (c : Thread nD τ) (st m hO t 0) fullShare ((dats m hO 0 c).after 0 t)
    ∗ owns (c : Thread nD τ) (st m hO t 1) fullShare ((dats m hO 0 c).after 1 t)
    ∗ owns (c : Thread nD τ) (st m hO t 2) fullShare ((dats m hO 0 c).after 2 t)
    ∗ owns (c : Thread nD τ) (st m hO t 3) fullShare ((dats m hO 0 c).after 3 t)
    ∗ owns (c : Thread nD τ) (st m hO t 4) fullShare ((dats m hO 0 c).after 4 t))

theorem sound_body (c : Dev nD) (t : Fin (cfgM m hO).N) :
    bodyPre m hO c t ⊢ wp frame (wpE (defs₀ (F := F)) Variants.none c none) Set.univ (bodyAt m hO t) (fun _ => bodyPost m hO c t) := by
  rw [bodyAt_eq]
  unfold bodyPre bodyPost
  simp only [before_0, before_1, before_2, before_3]
  rw [show (dats m hO 0 c).owesAt () t.succ = (dats m hO 0 c).owesAt () t.castSucc from rfl,
    after_0, after_1, after_2, after_3, after_4]
  rw [show (dats m hO 0 c).Φ t.castSucc = iprop(scratch m hO c t.castSucc ∗ (∃ r, prngReg c r) ∗ Pipeline.ΦT pre0 (tbl m) c) from rfl,
    show (dats m hO 0 c).Φ t.succ = iprop(scratch m hO c t.succ ∗ (∃ r, prngReg c r) ∗ Pipeline.ΦT pre0 (tbl m) c) from rfl, tables_eq]
  unfold scratch
  iintro ⟨⟨⟨%s0, %s1, %s2, %hs, S0, S1, S2⟩, Hp, T1, T2⟩, Ho, ⟨%d0, H0⟩, ⟨%d1, H1⟩, ⟨%d2, H2⟩, ⟨%d3, H3⟩, ⟨%d4, H4⟩⟩
  obtain ⟨e0, e1, e2⟩ := scratch_step m hO c t s0 s1 s2 hs
  iapply (sound_kernel c Set.univ (grid0.coords t) _ _ _ _ _ _ _ _ _ _ (teT m) (nvT m) (iblk m hO c 0 t) (iblk m hO c 1 t) (iblk m hO c 2 t) (iblk m hO c 3 t) s0 s1 s2 _)
  isplitl [T1]; · iexact T1
  isplitl [T2]; · iexact T2
  isplitl [H0]; · iexact H0
  isplitl [H1]; · iexact H1
  isplitl [H2]; · iexact H2
  isplitl [H3]; · iexact H3
  isplitl [H4]; · iexists _; iexact H4
  isplitl [S0]; · iexact S0
  isplitl [S1]; · iexact S1
  isplitl [S2]; · iexact S2
  rw [e0, e1, e2]
  iintro ⟨T1, T2, H0, H1, H2, H3, H4, S0, S1, S2⟩
  isplitl [S0 S1 S2 Hp T1 T2]
  · isplitl [S0 S1 S2]
    · iexists (k0_pay1 (iblk m hO c 1 t)); iexists (k0_pay2 (iblk m hO c 2 t)); iexists (k0_pay3 (iblk m hO c 3 t))
      isplitr
      · ipureintro
        intro t' ht
        obtain rfl : t' = t := Fin.ext (Nat.succ.inj ht)
        exact ⟨rfl, rfl, rfl⟩
      isplitl [S0]; · iexact S0
      isplitl [S1]; · iexact S1
      iexact S2
    isplitl [Hp]; · iexact Hp
    isplitl [T1]; · iexact T1
    iexact T2
  isplitl [Ho]; · iexact Ho
  isplitl [H0]; · iexact H0
  isplitl [H1]; · iexact H1
  isplitl [H2]; · iexact H2
  isplitl [H3]; · iexact H3
  iexact H4

/-- Every tile writes its block of the result: below the valid count one branch does, beyond it the other. -/
theorem busy (t : Fin (cfgM m hO).N) : idle0 (tbl m) 4 (((pcfg0 (F := F)).gridAt (tbl m)).coords t) = false := by
  show (!(k0_cond2 (grid0.coords t) _ == 1#1) && !(k0_cond3 (grid0.coords t) _ == 1#1)) = false
  by_cases h : k0_cond2 (grid0.coords t) ((tbl m).atD 1 ![0]) = 1#1
  · rw [h]; rfl
  · rw [(cond3_iff (grid0.coords t) ((tbl m).atD 1 ![0])).2 h]; exact Bool.and_false _

theorem body_obligation (c : Dev nD) : BodyObligation (dats m hO 0 c) (defs₀ (F := F)) Variants.none () Set.univ := fun t => by
  rw [bigSep_W0, bigSep_W0]
  have e := busy m hO t
  simp only [e]
  exact sound_body m hO c t

/-! ## The run -/

theorem scratch_in (c : Dev nD) : (Pipeline.scopedRest spec0 c : sProp 𝕄) ⊢ scratch m hO c 0 := by
  rw [scopedRest0_eq]
  unfold scratch owns
  simp only [Memref.view_whole, View.set_whole]
  iintro ⟨⟨%f0, H0⟩, ⟨%f1, H1⟩, ⟨%f2, H2⟩⟩
  iexists f0; iexists f1; iexists f2
  isplitr
  · ipureintro
    exact fun t h => absurd h (Nat.succ_ne_zero _)
  isplitl [H0]
  · iexists f0; isplitr
    · ipureintro; exact View.read_whole _ _
    iexact H0
  isplitl [H1]
  · iexists f1; isplitr
    · ipureintro; exact View.read_whole _ _
    iexact H1
  iexists f2; isplitr
  · ipureintro; exact View.read_whole _ _
  iexact H2

theorem scratch_out (c : Dev nD) (p) : scratch m hO c p ⊢ (Pipeline.scopedRest spec0 c : sProp 𝕄) := by
  rw [scopedRest0_eq]
  unfold scratch owns
  simp only [Memref.view_whole, View.set_whole]
  iintro ⟨%s0, %s1, %s2, -, ⟨%f0, -, H0⟩, ⟨%f1, -, H1⟩, ⟨%f2, -, H2⟩⟩
  isplitl [H0]; · iexists f0; iexact H0
  isplitl [H1]; · iexists f1; iexact H1
  iexists f2; iexact H2

/-- Every word of the tile table names one of the 32 experts. -/
def InRange (te : (main_v60 : Ref sig .tc).ty.Contents (Elt F)) : Prop := ∀ j : S288.Idx, BitVec.toNat (te j) < 32

theorem ok_of_inRange (h : InRange (teT m)) : Ok m := by
  have hw : ∀ i : grid0.Coords, BitVec.toNat (word (teT m) (k0_off1 i) (k0_off1_inb i)) < 32 := fun i => h _
  have inb : ∀ (n : ℕ) (p q : ℕ), n < 32 → ∀ a : Fin 4, ((![0, n, 0, 0] : Fin 4 → ℕ) a + 1) * (![1, 1, p, q] : Fin 4 → ℕ) a ≤ (![4, 32, p, q] : Fin 4 → ℕ) a := by
    intro n p q hn a
    fin_cases a
    · show (0 + 1) * 1 ≤ 4; omega
    · show (n + 1) * 1 ≤ 32; omega
    · show (0 + 1) * p ≤ p; omega
    · show (0 + 1) * q ≤ q; omega
  exact ⟨fun i => ⟨inb _ 1024 512 (hw i), .inl rfl⟩, fun i => ⟨inb _ 1024 512 (hw i), .inl rfl⟩, fun i => ⟨inb _ 512 1024 (hw i), .inl rfl⟩⟩

end Cert.Moe

end
-- ==== Proof.Moe.Run.lean ====
/-
  The whole call: the host's operations that rank the choices and lay out the dispatch, the pipeline, and the two look-ups of
  its result. The words of the tile table name an expert whatever the choices are, so the run needs nothing of the arguments.
-/
module

public import proofs.«01_k».proof.Proof.Moe.Frame

@[expose] public section

set_option maxRecDepth 16384

noncomputable section

namespace Cert.Moe

open Cert.Kernel2 Cert.Kernel2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

/-- The host's operations before the region. -/
abbrev early : List (List (HloOp τ sig (Elt F))) :=
  [hostOps0, hostOps0_1, hostOps0_2, hostOps0_3, hostOps0_4, hostOps0_5, hostOps0_6, hostOps0_7, hostOps0_8, hostOps0_9, hostOps0_10,
    hostOps0_11, hostOps0_12, hostOps0_13, hostOps0_14, hostOps0_15]

/-- And after it. -/
abbrev later : List (List (HloOp τ sig (Elt F))) := [hostOps1, hostOps1_1, hostOps1_2, hostOps1_3]

theorem early_sub : (early (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub,
    hostOps0_9_sub, hostOps0_10_sub, hostOps0_11_sub, hostOps0_12_sub, hostOps0_13_sub, hostOps0_14_sub, hostOps0_15_sub⟩

theorem early_fresh : (early (F := F)).Forall fun ops => ops.Forall fun op => op.fresh = ∅ := by
  simp only [List.Forall]; repeat' constructor

theorem later_fresh : ∀ ops ∈ later (F := F), ∀ op ∈ ops, op.fresh = ∅ := by
  have h : (later (F := F)).Forall fun ops => ops.Forall fun op => op.fresh = ∅ := by
    simp only [List.Forall]; repeat' constructor
  exact fun ops ho op h' => List.forall_iff_forall_mem.mp (List.forall_iff_forall_mem.mp h ops ho) op h'

/-- An operation that touches no table. -/
def NoTable (op : HloOp τ sig (Elt F)) : Prop := ∀ j : Fin 2, Proc.devRef .tc (pre0.ref j) ∉ op.bufs

/-- An operation that writes no array of the pipeline and no argument. -/
def Keeps (op : HloOp τ sig (Elt F)) : Prop :=
  (∀ w : Fin 5, Proc.devRef .tc (Pipeline.arrRef spec0 w) ∉ op.writes) ∧ Proc.devRef .tc main_arg0 ∉ op.writes ∧ Proc.devRef .tc main_arg1 ∉ op.writes

set_option maxHeartbeats 1000000 in
theorem hostOps1_tables : ∀ op ∈ (hostOps1 : List (HloOp τ sig (Elt F))), NoTable op := by
  intro op hop
  simp only [hostOps1, List.mem_cons, List.mem_nil_iff, or_false] at hop
  rcases hop with rfl | rfl
  all_goals
    intro j
    fin_cases j <;> simp only [StableHlo.nullary_bufs, StableHlo.unary_bufs, StableHlo.binary_bufs, StableHlo.ternary_bufs, StableHlo.reshape_bufs,
      Finset.mem_insert, Finset.mem_singleton, not_or] <;> and_intros <;> exact StableHlo.devRef_ne_of_ne (by decide)

set_option maxHeartbeats 1000000 in
theorem hostOps1_keeps : ∀ op ∈ (hostOps1 : List (HloOp τ sig (Elt F))), Keeps op := by
  intro op hop
  simp only [hostOps1, List.mem_cons, List.mem_nil_iff, or_false] at hop
  rcases hop with rfl | rfl
  all_goals
    refine ⟨fun w => ?_, ?_, ?_⟩
    · fin_cases w <;> simp only [StableHlo.nullary_writes, StableHlo.unary_writes, StableHlo.binary_writes, StableHlo.ternary_writes,
        StableHlo.reshape_writes, Finset.mem_singleton] <;> exact StableHlo.devRef_ne_of_ne (by decide)
    all_goals
      simp only [StableHlo.nullary_writes, StableHlo.unary_writes, StableHlo.binary_writes, StableHlo.ternary_writes,
        StableHlo.reshape_writes, Finset.mem_singleton]
      exact StableHlo.devRef_ne_of_ne (by decide)

set_option maxHeartbeats 1000000 in
theorem hostOps1_1_tables : ∀ op ∈ (hostOps1_1 : List (HloOp τ sig (Elt F))), NoTable op := by
  intro op hop
  simp only [hostOps1_1, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl
  all_goals
    intro j
    fin_cases j <;> simp only [StableHlo.nullary_bufs, StableHlo.unary_bufs, StableHlo.binary_bufs, StableHlo.ternary_bufs, StableHlo.reshape_bufs,
      Finset.mem_insert, Finset.mem_singleton, not_or] <;> and_intros <;> exact StableHlo.devRef_ne_of_ne (by decide)

set_option maxHeartbeats 1000000 in
theorem hostOps1_1_keeps : ∀ op ∈ (hostOps1_1 : List (HloOp τ sig (Elt F))), Keeps op := by
  intro op hop
  simp only [hostOps1_1, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl
  all_goals
    refine ⟨fun w => ?_, ?_, ?_⟩
    · fin_cases w <;> simp only [StableHlo.nullary_writes, StableHlo.unary_writes, StableHlo.binary_writes, StableHlo.ternary_writes,
        StableHlo.reshape_writes, Finset.mem_singleton] <;> exact StableHlo.devRef_ne_of_ne (by decide)
    all_goals
      simp only [StableHlo.nullary_writes, StableHlo.unary_writes, StableHlo.binary_writes, StableHlo.ternary_writes,
        StableHlo.reshape_writes, Finset.mem_singleton]
      exact StableHlo.devRef_ne_of_ne (by decide)

set_option maxHeartbeats 1000000 in
theorem hostOps1_2_tables : ∀ op ∈ (hostOps1_2 : List (HloOp τ sig (Elt F))), NoTable op := by
  intro op hop
  simp only [hostOps1_2, List.mem_cons, List.mem_nil_iff, or_false] at hop
  rcases hop with rfl | rfl
  all_goals
    intro j
    fin_cases j <;> simp only [StableHlo.nullary_bufs, StableHlo.unary_bufs, StableHlo.binary_bufs, StableHlo.ternary_bufs, StableHlo.reshape_bufs,
      Finset.mem_insert, Finset.mem_singleton, not_or] <;> and_intros <;> exact StableHlo.devRef_ne_of_ne (by decide)

set_option maxHeartbeats 1000000 in
theorem hostOps1_2_keeps : ∀ op ∈ (hostOps1_2 : List (HloOp τ sig (Elt F))), Keeps op := by
  intro op hop
  simp only [hostOps1_2, List.mem_cons, List.mem_nil_iff, or_false] at hop
  rcases hop with rfl | rfl
  all_goals
    refine ⟨fun w => ?_, ?_, ?_⟩
    · fin_cases w <;> simp only [StableHlo.nullary_writes, StableHlo.unary_writes, StableHlo.binary_writes, StableHlo.ternary_writes,
        StableHlo.reshape_writes, Finset.mem_singleton] <;> exact StableHlo.devRef_ne_of_ne (by decide)
    all_goals
      simp only [StableHlo.nullary_writes, StableHlo.unary_writes, StableHlo.binary_writes, StableHlo.ternary_writes,
        StableHlo.reshape_writes, Finset.mem_singleton]
      exact StableHlo.devRef_ne_of_ne (by decide)

set_option maxHeartbeats 1000000 in
theorem hostOps1_3_tables : ∀ op ∈ (hostOps1_3 : List (HloOp τ sig (Elt F))), NoTable op := by
  intro op hop
  simp only [hostOps1_3, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl
  all_goals
    intro j
    fin_cases j <;> simp only [StableHlo.nullary_bufs, StableHlo.unary_bufs, StableHlo.binary_bufs, StableHlo.ternary_bufs, StableHlo.reshape_bufs,
      Finset.mem_insert, Finset.mem_singleton, not_or] <;> and_intros <;> exact StableHlo.devRef_ne_of_ne (by decide)

set_option maxHeartbeats 1000000 in
theorem hostOps1_3_keeps : ∀ op ∈ (hostOps1_3 : List (HloOp τ sig (Elt F))), Keeps op := by
  intro op hop
  simp only [hostOps1_3, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl
  all_goals
    refine ⟨fun w => ?_, ?_, ?_⟩
    · fin_cases w <;> simp only [StableHlo.nullary_writes, StableHlo.unary_writes, StableHlo.binary_writes, StableHlo.ternary_writes,
        StableHlo.reshape_writes, Finset.mem_singleton] <;> exact StableHlo.devRef_ne_of_ne (by decide)
    all_goals
      simp only [StableHlo.nullary_writes, StableHlo.unary_writes, StableHlo.binary_writes, StableHlo.ternary_writes,
        StableHlo.reshape_writes, Finset.mem_singleton]
      exact StableHlo.devRef_ne_of_ne (by decide)

theorem later_sub : ∀ ops ∈ later (F := F), ∀ op ∈ ops, op.bufs ⊆ Pipeline.tailRefs sig pre0 spec0 := by
  intro ops hops op hop
  simp only [List.mem_cons, List.mem_nil_iff, or_false] at hops
  rcases hops with rfl | rfl | rfl | rfl
  · exact Pipeline.sub_tailRefs pre0 spec0 op ((List.forall_iff_forall_mem.mp hostOps1_sub) op hop) (hostOps1_tables op hop)
  · exact Pipeline.sub_tailRefs pre0 spec0 op ((List.forall_iff_forall_mem.mp hostOps1_1_sub) op hop) (hostOps1_1_tables op hop)
  · exact Pipeline.sub_tailRefs pre0 spec0 op ((List.forall_iff_forall_mem.mp hostOps1_2_sub) op hop) (hostOps1_2_tables op hop)
  · exact Pipeline.sub_tailRefs pre0 spec0 op ((List.forall_iff_forall_mem.mp hostOps1_3_sub) op hop) (hostOps1_3_tables op hop)

theorem later_keeps : ∀ ops ∈ later (F := F), ∀ op ∈ ops, Keeps op := by
  intro ops hops op hop
  simp only [List.mem_cons, List.mem_nil_iff, or_false] at hops
  rcases hops with rfl | rfl | rfl | rfl
  · exact hostOps1_keeps op hop
  · exact hostOps1_1_keeps op hop
  · exact hostOps1_2_keeps op hop
  · exact hostOps1_3_keeps op hop

variable (μ : (ℓ : Loc nD τ sig) → Buf (Elt F) ℓ) (ρ : Dev nD → PrngReg)

/-- The buffers when the region is entered. -/
def entry (c : Dev nD) : Valuation τ sig (Elt F) := StableHlo.after (List.flatten early) (fun b => μ (c, b))

/-- What the region leaves, before the look-ups. -/
def leaves (hO : Ok (entry μ)) (c : Dev nD) : Valuation τ sig (Elt F) :=
  Pipeline.withArrays (Pipeline.pin pcfgs (fun _ => adm (entry μ) hO) 0).spec c (entry μ c) fun w => (dats (entry μ) hO 0 c).arrAt w (cfgM (entry μ) hO).N

/-- What the call leaves. -/
def ends (hO : Ok (entry μ)) (c : Dev nD) : Valuation τ sig (Elt F) := StableHlo.after (List.flatten later) (leaves μ hO c)

set_option maxHeartbeats 800000 in
theorem hmain : Pipeline.HMainPK (Ix := Unit) (Name := ℕ) (U := UR sig nD τ) (Lvl := ℕ) pcfgs 0 defs₀ Variants.none μ (main (F := F))
    (fun c b => entry μ c (Proc.devRef .tc b)) (fun _ => Pipeline.chain (later.map StableHlo.seq)) :=
  Pipeline.hmainP_around pcfgs 0 defs₀ Variants.none μ main early later early_sub early_fresh main_chain

set_option backward.isDefEq.respectTransparency.types false in
set_option maxHeartbeats 1600000 in
/-- The run, from any memory whose tables come out admissible, for any values. -/
theorem run (hO : Ok (entry μ)) : θ_run defs (onTc (τ := τ) (main (F := F))) (s₀ μ ρ)
    (fun r => Pipeline.FramePost (Pipeline.pin pcfgs fun _ => adm (entry μ) hO) (dats (entry μ) hO) 0 (fun c b => ends μ hO c (Proc.devRef .tc b)) r ∧ r.2.sem = fun _ => 0) :=
  Pipeline.θ_run_frameP_around_track (Q' := _) pcfgs (fun _ => adm (entry μ) hO) (dats (entry μ) hO) (0 : Fin 1) launch0 defs₀ Variants.none μ ρ main
    (hbody := fun c => (body_obligation (entry μ) hO c).loose) (hshare := fun c => (dats (entry μ) hO 0 c).share_full fun _ => rfl)
    (howed := fun _ _ => rfl) (V₀ := entry μ) (opss := later) (hsub := later_sub) (hfresh := later_fresh)
    (hkeep := fun ops ho op h => (later_keeps ops ho op h).1) (hmain := hmain μ)
    (hA := A_eq (entry μ) hO) (hpf := V_pre (entry μ))
    (hin := fun c => by
      show iprop(iprop(Pipeline.scopedRest spec0 c ∗ ∃ r, prngReg c r) ∗ Pipeline.ΦT pre0 (tbl (entry μ)) c)
        ⊢ iprop(scratch (entry μ) hO c 0 ∗ (∃ r, prngReg c r) ∗ Pipeline.ΦT pre0 (tbl (entry μ)) c)
      iintro ⟨⟨H, Hp⟩, HT⟩
      isplitl [H]; · iapply (scratch_in (entry μ) hO c); iexact H
      isplitl [Hp]; · iexact Hp
      iexact HT)
    (hout := fun c => by
      show iprop(scratch (entry μ) hO c (Fin.last _) ∗ (∃ r, prngReg c r) ∗ Pipeline.ΦT pre0 (tbl (entry μ)) c)
        ⊢ iprop(Pipeline.scopedRest spec0 c ∗ ∃ r, prngReg c r)
      iintro ⟨H, Hp, -⟩
      isplitl [H]; · iapply (scratch_out (entry μ) hO c _); iexact H
      iexact Hp)

end Cert.Moe

end
-- ==== Proof.Moe.Word.lean ====
module

public import Idealize.ShloMosaic.Lib.StableHlo.ReadAt
public import Idealize.ShloMosaic.Lib.Pointwise
public import Idealize.ShloMosaic.Lib.WordCmp
public import Idealize.ShloMosaic.Lib.Routing.Words
public import Idealize.ShloMosaic.Lib.Routing.OpsOne
public import Idealize.ShloMosaic.Lib.Routing.OpsSet
public import Idealize.ShloMosaic.Lib.Routing.OpsPair

/-! # Words that hold natural numbers -/

@[expose] public section
namespace Cert.Moe
open Idealize.ShloMosaic

theorem ixw1 {n : ℕ} (a : Fin n) : ix1 a = ValueIdx.ix1 a := funext fun d => match d with | ⟨0, _⟩ => rfl
theorem ixw2 {n m : ℕ} (a : Fin n) (b : Fin m) : ix2 a b = ValueIdx.ix2 a b := funext fun d => match d with | ⟨0, _⟩ => rfl | ⟨1, _⟩ => rfl

theorem addw (a b : ℕ) : IntOp.addi (BitVec.ofNat 32 a) (BitVec.ofNat 32 b) = BitVec.ofNat 32 (a + b) := (BitVec.ofNat_add a b).symm

theorem mulw (a b : ℕ) : IntOp.muli (BitVec.ofNat 32 a) (BitVec.ofNat 32 b) = BitVec.ofNat 32 (a * b) := (BitVec.ofNat_mul a b).symm

theorem subw {a b : ℕ} (h : b ≤ a) : IntOp.subi (BitVec.ofNat 32 a) (BitVec.ofNat 32 b) = BitVec.ofNat 32 (a - b) := by
  obtain ⟨c, rfl⟩ := Nat.exists_eq_add_of_le h
  show BitVec.ofNat 32 (b + c) - BitVec.ofNat 32 b = _
  rw [BitVec.ofNat_add, Nat.add_sub_cancel_left, add_sub_cancel_left]

/-- Adding up words that hold numbers. -/
theorem fold_addw {ι : Type} (s : Finset ι) (g : ι → BitVec 32) (f : ι → ℕ) (h : ∀ i ∈ s, g i = BitVec.ofNat 32 (f i)) :
    Finset.fold IntOp.addi 0#32 g s = BitVec.ofNat 32 (∑ i ∈ s, f i) := by
  classical
  induction s using Finset.induction_on with
  | empty => rfl
  | insert a s ha ih =>
    rw [Finset.fold_insert ha, Finset.sum_insert ha, h a (Finset.mem_insert_self _ _), ih fun i hi => h i (Finset.mem_insert_of_mem hi), addw]

/-- Adding up the values that a one-hot choice selects gives the value at the chosen place. -/
theorem fold_pick (y : Fin 32) (a : BitVec 32) (ha : a = BitVec.ofNat 32 y.val) (g : Fin 32 → BitVec 32) (f : Fin 32 → ℕ) (h : ∀ x, g x = BitVec.ofNat 32 (f x)) :
    Finset.fold IntOp.addi 0#32 (fun x => Scalar.select (IntOp.cmpi CmpIPredicate.eq a (BitVec.ofNat 32 x.val)) (g x) 0#32) Finset.univ = BitVec.ofNat 32 (f y) := by
  rw [fold_addw _ _ (fun x => if x = y then f x else 0) fun x _ => ?_]
  · simp
  · have e : (BitVec.ofNat 32 y.val = BitVec.ofNat 32 x.val) ↔ x = y := by
      constructor
      · intro q
        have q' := congrArg BitVec.toNat q
        have := x.isLt; have := y.isLt
        rw [BitVec.toNat_ofNat, BitVec.toNat_ofNat, Nat.mod_eq_of_lt (by omega), Nat.mod_eq_of_lt (by omega)] at q'
        exact Fin.ext q'.symm
      · rintro rfl; rfl
    rw [WordCmp.cmpi_eq_eq, ha, h x]
    by_cases q : x = y
    · rw [if_pos q, decide_eq_true (e.2 q)]; rfl
    · rw [if_neg q, decide_eq_false fun z => q (e.1 z)]; rfl

/-- The rounding-down division of a number by 256, as it is written with signs and remainders. -/
theorem floor256 {n : ℕ} (hn : n < 2 ^ 31) (a b : BitVec 32) (ha : a = BitVec.ofNat 32 n) (hb : b = 256#32) :
    Scalar.select
      (IntOp.andi
        (IntOp.cmpi CmpIPredicate.ne
          (if a = 0 then 0 else if BitVec.msb a = true then -1 else 1)
          (if b = 0 then (0 : BitVec 32) else if BitVec.msb b = true then -1 else 1))
        (IntOp.cmpi CmpIPredicate.ne (IntOp.remsi ArithUnit.host a b) 0#32))
      (IntOp.subi (IntOp.divsi ArithUnit.host a b) 1#32)
      (IntOp.divsi ArithUnit.host a b) = BitVec.ofNat 32 (n / 256) := by
  subst ha hb
  have h256 : (256#32 : BitVec 32) = BitVec.ofNat 32 256 := rfl
  rw [h256, Routing.remsi_word _ hn (by norm_num) (by norm_num), Routing.divsi_word _ hn (by norm_num) (by norm_num)]
  have hz : IntOp.andi
        (IntOp.cmpi CmpIPredicate.ne
          (if BitVec.ofNat 32 n = 0 then 0 else if BitVec.msb (BitVec.ofNat 32 n) = true then -1 else 1)
          (if BitVec.ofNat 32 256 = 0 then (0 : BitVec 32) else if BitVec.msb (BitVec.ofNat 32 256) = true then -1 else 1))
        (IntOp.cmpi CmpIPredicate.ne (BitVec.ofNat 32 (n % 256)) 0#32) = 0#1 := by
    rw [show (if BitVec.ofNat 32 256 = 0 then (0 : BitVec 32) else if BitVec.msb (BitVec.ofNat 32 256) = true then -1 else 1) = 1 from by decide]
    by_cases h0 : n = 0
    · subst h0; decide
    · have h1 : BitVec.ofNat 32 n ≠ 0 := fun q => by
        have q' := congrArg BitVec.toNat q
        rw [BitVec.toNat_ofNat, Nat.mod_eq_of_lt (by omega)] at q'
        exact h0 q'
      have h2 : BitVec.msb (BitVec.ofNat 32 n) = false := by
        rw [BitVec.msb_eq_decide, BitVec.toNat_ofNat, Nat.mod_eq_of_lt (by omega)]
        exact decide_eq_false (by omega)
      rw [if_neg h1, h2, if_neg (by decide), show IntOp.cmpi CmpIPredicate.ne (1 : BitVec 32) 1 = 0#1 from by decide]
      exact BitVec.zero_and
  rw [hz]; rfl

/-- A number below a bound is not wrapped by the look-up's treatment of negative indices. -/
theorem wrap_id {n : ℕ} (hn : n < 2 ^ 31) (a c : BitVec 32) (ha : a = BitVec.ofNat 32 n) :
    Scalar.select (IntOp.cmpi CmpIPredicate.slt a 0#32) (IntOp.addi a c) a = BitVec.ofNat 32 n := by
  subst ha
  have h : IntOp.cmpi CmpIPredicate.slt (BitVec.ofNat 32 n) 0#32 = 0#1 := by
    have := WordCmp.cmpi_slt_ofNat (w := 32) (a := n) (b := 0) (by simpa using hn) (by norm_num)
    rw [this, decide_eq_false (by omega)]; rfl
  rw [h]; rfl

/-- The look-up's bounds check on a number in range. -/
theorem bounds_id {n b : ℕ} (hb : b < 2 ^ 31) (hn : n ≤ b) (a : BitVec 32) (ha : a = BitVec.ofNat 32 n) :
    Finset.fold IntOp.andi 1#1 (fun _ : Fin 1 => IntOp.andi (IntOp.cmpi CmpIPredicate.sge a 0#32) (IntOp.cmpi CmpIPredicate.sle a (BitVec.ofNat 32 b))) Finset.univ = 1#1 := by
  subst ha
  have h1 : IntOp.cmpi CmpIPredicate.sge (BitVec.ofNat 32 n) 0#32 = 1#1 := by
    have := WordCmp.cmpi_sge_ofNat (w := 32) (a := n) (b := 0) (by simpa using (by omega : n < 2147483648)) (by norm_num)
    rw [this, decide_eq_true (by omega)]; rfl
  have h2 : IntOp.cmpi CmpIPredicate.sle (BitVec.ofNat 32 n) (BitVec.ofNat 32 b) = 1#1 := by
    rw [WordCmp.cmpi_sle_ofNat (w := 32) (by simpa using (by omega : n < 2147483648)) (by simpa using hb), decide_eq_true hn]; rfl
  rw [h1, h2]; decide

/-- The running sum along the middle axis. -/
theorem running (f : ℕ → ℕ) (i : Fin 64) (c : Fin 32) (x : IVec (⟨3, ![64, 512, 32]⟩ : Shape) 32) (hx : ∀ r : Fin 512, x (ix3 i r c) = BitVec.ofNat 32 (f r.val))
    (init : IVec (⟨0, ![]⟩ : Shape) 32) (hinit : ∀ k, init k = 0#32)
    (h : (⟨3, ![64, 512, 32]⟩ : Shape).ReduceWindows (![1, 512, 1] : Fin 3 → Nat) ![1, 1, 1] ![0, 511, 0] ![0, 0, 0] ⟨3, ![64, 512, 32]⟩)
    (hu : 0 < (⟨0, ![]⟩ : Shape).numel) (j : Fin 512) :
    Host.reduceWindow IntOp.addi ![1, 512, 1] ![1, 1, 1] ![0, 511, 0] ![0, 0, 0] x init h hu (ix3 i j c) = BitVec.ofNat 32 ((List.range (j.val + 1)).map f).sum := by
  have hN : (⟨3, ![1, 512, 1]⟩ : Shape).numel = 512 := rfl
  have hs : ∀ n : Fin (⟨3, ![1, 512, 1]⟩ : Shape).numel, (((⟨3, ![1, 512, 1]⟩ : Shape).rowMajor.symm n) 1).val = n.val := fun n => by
    have h1 := Shape.rowMajor_val_three ((⟨3, ![1, 512, 1]⟩ : Shape).rowMajor.symm n)
    rw [Equiv.apply_symm_apply] at h1
    have h0 : (((⟨3, ![1, 512, 1]⟩ : Shape).rowMajor.symm n) 0).val < 1 := (((⟨3, ![1, 512, 1]⟩ : Shape).rowMajor.symm n) 0).isLt
    have h2 : (((⟨3, ![1, 512, 1]⟩ : Shape).rowMajor.symm n) 2).val < 1 := (((⟨3, ![1, 512, 1]⟩ : Shape).rowMajor.symm n) 2).isLt
    simp at h1 h0 h2 ⊢
    simp [h0, h2] at h1
    omega
  have hj := j.isLt
  unfold Host.reduceWindow
  refine (Routing.foldl_addi_ofNat _ _ (fun n => if 511 ≤ j.val + n.val then f (j.val + n.val - 511) else 0) (fun n _ => ?_) _ 0 (hinit _)).trans ?_
  · have hw := hs n
    have hn : n.val < 512 := n.isLt
    have h0 : (((⟨3, ![1, 512, 1]⟩ : Shape).rowMajor.symm n) 0).val < 1 := (((⟨3, ![1, 512, 1]⟩ : Shape).rowMajor.symm n) 0).isLt
    have h2 : (((⟨3, ![1, 512, 1]⟩ : Shape).rowMajor.symm n) 2).val < 1 := (((⟨3, ![1, 512, 1]⟩ : Shape).rowMajor.symm n) 2).isLt
    dsimp only
    by_cases hle : 511 ≤ j.val + n.val
    · rw [if_pos hle]
      have hin : ∀ a : Fin 3, (![0, 511, 0] : Fin 3 → Nat) a ≤ ((ix3 i j c : (⟨3, ![64, 512, 32]⟩ : Shape).Idx) a).val * (![1, 1, 1] : Fin 3 → Nat) a + (((⟨3, ![1, 512, 1]⟩ : Shape).rowMajor.symm n) a).val
          ∧ ((ix3 i j c : (⟨3, ![64, 512, 32]⟩ : Shape).Idx) a).val * (![1, 1, 1] : Fin 3 → Nat) a + (((⟨3, ![1, 512, 1]⟩ : Shape).rowMajor.symm n) a).val - (![0, 511, 0] : Fin 3 → Nat) a < (![64, 512, 32] : Fin 3 → Nat) a := by
        intro a
        match a with
        | ⟨0, _⟩ =>
          show 0 ≤ i.val * 1 + (((⟨3, ![1, 512, 1]⟩ : Shape).rowMajor.symm n) 0).val ∧ i.val * 1 + (((⟨3, ![1, 512, 1]⟩ : Shape).rowMajor.symm n) 0).val - 0 < 64
          have := i.isLt; omega
        | ⟨1, _⟩ =>
          show 511 ≤ j.val * 1 + (((⟨3, ![1, 512, 1]⟩ : Shape).rowMajor.symm n) 1).val ∧ j.val * 1 + (((⟨3, ![1, 512, 1]⟩ : Shape).rowMajor.symm n) 1).val - 511 < 512
          omega
        | ⟨2, _⟩ =>
          show 0 ≤ c.val * 1 + (((⟨3, ![1, 512, 1]⟩ : Shape).rowMajor.symm n) 2).val ∧ c.val * 1 + (((⟨3, ![1, 512, 1]⟩ : Shape).rowMajor.symm n) 2).val - 0 < 32
          have := c.isLt; omega
      refine (dif_pos hin).trans ?_
      refine (congrArg x (funext fun a => Fin.ext ?_)).trans (hx ⟨j.val + n.val - 511, by omega⟩)
      match a with
      | ⟨0, _⟩ =>
        show i.val * 1 + (((⟨3, ![1, 512, 1]⟩ : Shape).rowMajor.symm n) 0).val - 0 = i.val
        omega
      | ⟨1, _⟩ =>
        show j.val * 1 + (((⟨3, ![1, 512, 1]⟩ : Shape).rowMajor.symm n) 1).val - 511 = j.val + n.val - 511
        omega
      | ⟨2, _⟩ =>
        show c.val * 1 + (((⟨3, ![1, 512, 1]⟩ : Shape).rowMajor.symm n) 2).val - 0 = c.val
        omega
    · rw [if_neg hle]
      refine (dif_neg fun hin => hle ?_).trans (hinit _)
      have h1 := (hin (1 : Fin 3)).1
      change 511 ≤ j.val * 1 + (((⟨3, ![1, 512, 1]⟩ : Shape).rowMajor.symm n) 1).val at h1
      omega
  · rw [Nat.zero_add, Routing.map_finRange_val _ (fun w => if 511 ≤ j.val + w then f (j.val + w - 511) else 0)]
    exact congrArg (BitVec.ofNat 32) (Routing.sum_window f 511 j.val (by omega))

/-- Where a scattered token number lands. -/
theorem lands (d : ScatterDims (⟨1, ![73728]⟩ : Shape) ⟨2, ![65536, 1]⟩ ⟨1, ![65536]⟩) (hu : d.updateWindowDims = []) (hi : d.insertedWindowDims = [0])
    (hs : d.scatterDimsToOperandDims = [0]) (hv : d.indexVectorDim = 1) (idx : IVec (⟨2, ![65536, 1]⟩ : Shape) 32) (k : Fin 65536) (e : Fin 73728) :
    d.resultIdx? (ix1 k) idx = some (ix1 e) ↔ (idx (ix2 k 0)).toInt = (e.val : Int) := by
  obtain ⟨a, b, c, v, wf⟩ := d
  subst hu hi hs hv
  rw [ixw1 e, Routing.resultIdx?_ix1]
  have h1 : ScatterDims.start (⟨[], [0], [0], 1, wf⟩ : ScatterDims (⟨1, ![73728]⟩ : Shape) ⟨2, ![65536, 1]⟩ ⟨1, ![65536]⟩) (ix1 k) idx 0 = (idx (ix2 k 0)).toInt := by
    unfold ScatterDims.start
    rw [dif_pos (show (0 : Fin 1) ∈ [(0 : Fin 1)] from by decide)]
    congr 2
    funext q
    match q with
    | ⟨0, _⟩ => rfl
    | ⟨1, _⟩ => exact Subsingleton.elim (α := Fin 1) _ _
  have h2 : ScatterDims.window (⟨[], [0], [0], 1, wf⟩ : ScatterDims (⟨1, ![73728]⟩ : Shape) ⟨2, ![65536, 1]⟩ ⟨1, ![65536]⟩) (ix1 k) 0 = 0 := by
    unfold ScatterDims.window
    rw [dif_neg (show (0 : Fin 1) ∉ (⟨1, ![73728]⟩ : Shape).kept [(0 : Fin 1)] from by decide)]
  rw [h1, h2]; simp

/-- The cap of a count of at most 32. -/
theorem minw : ∀ n : Fin 33, IntOp.minsi (BitVec.ofNat 32 n.val) 31#32 = BitVec.ofNat 32 (min n.val 31) := by decide

theorem extw (b : BitVec 1) : BitVec.setWidth 32 b = BitVec.ofNat 32 b.toNat := by revert b; decide

end Cert.Moe
-- ==== Proof.Moe.Args.lean ====
/-
  What the host's operations keep, and the tile table: its words name an expert whatever the choices are, so the run holds of
  every memory; with it the call's results and its arguments after the run.
-/
module

public import proofs.«01_k».proof.Proof.Moe.Run
public import proofs.«01_k».proof.Proof.Moe.Word

@[expose] public section

set_option maxRecDepth 16384

noncomputable section

namespace Cert.Moe

open Cert.Kernel2 Cert.Kernel2.Gen Idealize.ShloMosaic Idealize.ShloMosaic.TcCoe Idealize.SL.Sem

variable {F : FTy → Type} [FloatOps F]

theorem after_two (l₁ l₂ : List (HloOp τ sig (Elt F))) (W : Valuation τ sig (Elt F)) :
    StableHlo.after (l₁ ++ l₂) W = StableHlo.after l₂ (StableHlo.after l₁ W) := by
  induction l₁ generalizing W with
  | nil => rfl
  | cons op l ih => exact ih _

section
variable (W : Valuation τ sig (Elt F))

theorem keep0_a0 : StableHlo.after (List.flatten early) W (Proc.devRef .tc main_arg0) = W (Proc.devRef .tc main_arg0) := by after_reads_simp
theorem keep0_a1 : StableHlo.after (List.flatten early) W (Proc.devRef .tc main_arg1) = W (Proc.devRef .tc main_arg1) := by after_reads_simp
theorem keep0_a2 : StableHlo.after (List.flatten early) W (Proc.devRef .tc main_arg2) = W (Proc.devRef .tc main_arg2) := by after_reads_simp
theorem keep0_a3 : StableHlo.after (List.flatten early) W (Proc.devRef .tc main_arg3) = W (Proc.devRef .tc main_arg3) := by after_reads_simp
theorem keep0_a4 : StableHlo.after (List.flatten early) W (Proc.devRef .tc main_arg4) = W (Proc.devRef .tc main_arg4) := by after_reads_simp
theorem keep1_a0 : StableHlo.after (List.flatten later) W (Proc.devRef .tc main_arg0) = W (Proc.devRef .tc main_arg0) := by after_reads_simp
theorem keep1_a1 : StableHlo.after (List.flatten later) W (Proc.devRef .tc main_arg1) = W (Proc.devRef .tc main_arg1) := by after_reads_simp

/-- The words of the tile table: how many experts' stretches end at the tile or before it, capped at the last expert. -/
theorem table_word (j : Fin 288) : (StableHlo.after (List.flatten [hostOps0_10, hostOps0_11, hostOps0_12, hostOps0_13, hostOps0_14, hostOps0_15]) W (Proc.devRef .tc main_v60) : S288.Idx → BitVec 32) (ix1 j)
    = IntOp.minsi (Finset.fold IntOp.addi 0#32 (fun x : Fin 32 => BitVec.setWidth 32 (IntOp.cmpi CmpIPredicate.sge (IntOp.muli (BitVec.ofNat 32 j.val) 256#32)
        ((W (Proc.devRef .tc main_v32) : S32.Idx → BitVec 32) (ix1 x)))) Finset.univ) 31#32 := by
  after_reads_at

theorem capped (f : Fin 32 → BitVec 1) : (IntOp.minsi (Finset.fold IntOp.addi 0#32 (fun x => BitVec.setWidth 32 (f x)) Finset.univ) 31#32).toNat < 32 := by
  have hb : (∑ x, (f x).toNat) ≤ 32 := (Finset.sum_le_card_nsmul _ _ 1 fun x _ => Nat.le_of_lt_succ (BitVec.isLt _)).trans (by simp)
  rw [fold_addw _ _ (fun x => (f x).toNat) fun x _ => extw _]
  generalize (∑ x, (f x).toNat) = n at hb ⊢
  rw [minw ⟨n, by omega⟩, BitVec.toNat_ofNat]
  simp only
  omega

theorem table_lt (j : Fin 288) : ((StableHlo.after (List.flatten [hostOps0_10, hostOps0_11, hostOps0_12, hostOps0_13, hostOps0_14, hostOps0_15]) W (Proc.devRef .tc main_v60) : S288.Idx → BitVec 32) (ix1 j)).toNat < 32 := by
  rw [table_word]; exact capped _
end

variable (μ : (ℓ : Loc nD τ sig) → Buf (Elt F) ℓ) (ρ : Dev nD → PrngReg)

/-- Every word of the tile table names an expert. -/
theorem inRange : InRange (teT (entry μ)) := fun j => by
  obtain ⟨t, rfl⟩ : ∃ t : Fin 288, j = ix1 t := ⟨j 0, by idx_vars j⟩
  exact (congrArg (fun V : Valuation τ sig (Elt F) => ((V (Proc.devRef .tc main_v60) : S288.Idx → BitVec 32) (ix1 t)).toNat)
    (after_two (List.flatten [hostOps0, hostOps0_1, hostOps0_2, hostOps0_3, hostOps0_4, hostOps0_5, hostOps0_6, hostOps0_7, hostOps0_8, hostOps0_9])
      (List.flatten [hostOps0_10, hostOps0_11, hostOps0_12, hostOps0_13, hostOps0_14, hostOps0_15]) fun b => μ ((0 : Dev nD), b))).trans_lt (table_lt _ t)

theorem ok : Ok (entry μ) := ok_of_inRange _ (inRange μ)

/-- The pipeline's result: every slot's row. -/
def result (c : Dev nD) : S73728x1024.Idx → F .bf16 := (dats (entry μ) (ok μ) 0 c).arrAt 4 (cfgM (entry μ) (ok μ)).N

theorem leaves_v79 (c : Dev nD) : leaves μ (ok μ) c (Proc.devRef .tc main_v79) = result μ c :=
  Pipeline.withArrays_arr spec0 (by decide) c (entry μ c) _ (4 : Fin 5)

theorem leaves_v48 (c : Dev nD) : leaves μ (ok μ) c (Proc.devRef .tc main_v48) = entry μ c (Proc.devRef .tc main_v48) :=
  Pipeline.withArrays_of_ne spec0 c (entry μ c) _ main_v48 (by decide)

theorem leaves_a0 (c : Dev nD) : leaves μ (ok μ) c (Proc.devRef .tc main_arg0) = μ (c, Proc.devRef .tc main_arg0) :=
  (Pipeline.withArrays_of_ne spec0 c (entry μ c) _ main_arg0 (by decide)).trans (keep0_a0 _)

theorem leaves_a1 (c : Dev nD) : leaves μ (ok μ) c (Proc.devRef .tc main_arg1) = μ (c, Proc.devRef .tc main_arg1) :=
  (Pipeline.withArrays_of_ne spec0 c (entry μ c) _ main_arg1 (by decide)).trans (keep0_a1 _)

theorem rest {b : Ref sig .tc} (h : ∀ w : Fin 5, (spec0 w).arr.view.ref ≠ b) (hs : b.isScoped = false) : b ∈ Pipeline.restRefs sig spec0 :=
  Pipeline.mem_restRefs_of b hs h

/-- The arguments end unchanged and the results hold their arrays. -/
theorem run_value : θ_run defs (onTc (τ := τ) (main (F := F))) ⟨μ, fun _ => 0, ρ⟩ (fun r => (∀ c : Dev nD,
      r.2.mem ((c.tc : Thread nD τ).loc main_v82) = ends μ (ok μ) c (Proc.devRef .tc main_v82)
      ∧ r.2.mem ((c.tc : Thread nD τ).loc main_v85) = ends μ (ok μ) c (Proc.devRef .tc main_v85)
      ∧ r.2.mem ((c.tc : Thread nD τ).loc main_arg0) = μ ((c.tc : Thread nD τ).loc main_arg0)
      ∧ r.2.mem ((c.tc : Thread nD τ).loc main_arg1) = μ ((c.tc : Thread nD τ).loc main_arg1)
      ∧ r.2.mem ((c.tc : Thread nD τ).loc main_arg2) = μ ((c.tc : Thread nD τ).loc main_arg2)
      ∧ r.2.mem ((c.tc : Thread nD τ).loc main_arg3) = μ ((c.tc : Thread nD τ).loc main_arg3)
      ∧ r.2.mem ((c.tc : Thread nD τ).loc main_arg4) = μ ((c.tc : Thread nD τ).loc main_arg4))
      ∧ r.2.sem = fun _ => 0) := by
  refine (θ_run defs _ _).mono (fun r h => ⟨fun c => ?_, h.2⟩) (run μ ρ (ok μ))
  obtain ⟨ha, hr⟩ := h.1 c
  have input : ∀ w : Fin (cfgM (entry μ) (ok μ)).W, ((cfgM (entry μ) (ok μ)).win w).isOut = false →
      (dats (entry μ) (ok μ) 0 c).arrAt w (cfgM (entry μ) (ok μ)).N = V (entry μ) c (Pipeline.arrRef spec0 w) :=
    fun w hw => ((dats (entry μ) (ok μ) 0 c).arrAt_in w hw _).trans (A_eq (entry μ) (ok μ) c w)
  exact ⟨hr main_v82 (rest (by decide) rfl), hr main_v85 (rest (by decide) rfl),
    (hr main_arg0 (rest (by decide) rfl)).trans ((keep1_a0 _).trans (leaves_a0 μ c)),
    (hr main_arg1 (rest (by decide) rfl)).trans ((keep1_a1 _).trans (leaves_a1 μ c)),
    (ha 1).trans ((input 1 rfl).trans (keep0_a2 _)), (ha 2).trans ((input 2 rfl).trans (keep0_a3 _)), (ha 3).trans ((input 3 rfl).trans (keep0_a4 _))⟩

end Cert.Moe

end
-- ==== Proof.Moe.Counts.lean ====
module

public import Idealize.ShloMosaic.Lib.WordCmp
public import Mathlib.Data.Nat.Count
public import Mathlib.Algebra.BigOperators.Fin
public import Mathlib.Algebra.Order.BigOperators.Group.Finset
public import Mathlib.Data.Fintype.BigOperators

/-! # Counting the tokens of every expert

`ch x t` says that token `t` chose expert `x`. The tokens of an expert, in order, take consecutive slots from a multiple of 256 on, and every expert's
slots are rounded up to a multiple of 256. -/

@[expose] public section
namespace Cert.Moe

variable (ch : ℕ → ℕ → Bool)

/-- How many of the first `n` tokens chose expert `x`. -/
def cnt (x n : ℕ) : ℕ := Nat.count (fun t => ch x t = true) n
/-- The slots of expert `x`. -/
def padded (x : ℕ) : ℕ := (cnt ch x 32768 + 255) / 256 * 256
/-- The first slot of expert `x`. -/
def first (x : ℕ) : ℕ := ((List.range x).map (padded ch)).sum
/-- The slot of token `t` at expert `x`. -/
def slotOf (x t : ℕ) : ℕ := first ch x + cnt ch x t

theorem first_succ (x : ℕ) : first ch (x + 1) = first ch x + padded ch x := by
  unfold first
  rw [List.range_succ, List.map_append, List.sum_append]; simp

theorem cnt_succ (x n : ℕ) : cnt ch x (n + 1) = cnt ch x n + if ch x n = true then 1 else 0 := Nat.count_succ _ _

theorem cnt_mono (x : ℕ) {m n : ℕ} (h : m ≤ n) : cnt ch x m ≤ cnt ch x n := Nat.count_monotone _ h

theorem cnt_le (x n : ℕ) : cnt ch x n ≤ n := Nat.count_le _

theorem first_mono {x y : ℕ} (h : x ≤ y) : first ch x ≤ first ch y := by
  induction h with
  | refl => exact le_rfl
  | step _ ih => rw [first_succ]; omega

theorem first_dvd (x : ℕ) : 256 ∣ first ch x := by
  induction x with
  | zero => exact ⟨0, rfl⟩
  | succ x ih => rw [first_succ]; exact Nat.dvd_add ih ⟨(cnt ch x 32768 + 255) / 256, by unfold padded; omega⟩

theorem le_padded (x : ℕ) : cnt ch x 32768 ≤ padded ch x := by unfold padded; omega

variable {ch}

/-- A chosen token's slot lies among its expert's slots. -/
theorem slot_mem {x t : ℕ} (h : ch x t = true) (ht : t < 32768) : first ch x ≤ slotOf ch x t ∧ slotOf ch x t < first ch (x + 1) := by
  have h1 := cnt_mono ch x (show t + 1 ≤ 32768 by omega)
  rw [cnt_succ, if_pos h] at h1
  have := le_padded ch x
  rw [first_succ]; unfold slotOf
  omega

/-- Two chosen tokens share no slot. -/
theorem slot_inj {x y t u : ℕ} (hx : ch x t = true) (hy : ch y u = true) (ht : t < 32768) (hu : u < 32768)
    (h : slotOf ch x t = slotOf ch y u) : x = y ∧ t = u := by
  have h1 := slot_mem hx ht
  have h2 := slot_mem hy hu
  have e : x = y := by
    rcases lt_trichotomy x y with q | q | q
    · have := first_mono ch (show x + 1 ≤ y by omega); omega
    · exact q
    · have := first_mono ch (show y + 1 ≤ x by omega); omega
  subst e
  refine ⟨rfl, ?_⟩
  unfold slotOf at h
  rcases lt_trichotomy t u with q | q | q
  · have h3 := cnt_mono ch x (show t + 1 ≤ u by omega)
    rw [cnt_succ, if_pos hx] at h3; omega
  · exact q
  · have h3 := cnt_mono ch x (show u + 1 ≤ t by omega)
    rw [cnt_succ, if_pos hy] at h3; omega

/-- Where every token chooses at most two experts, the experts' counts add up to at most twice the tokens. -/
theorem cnt_sum (h : ∀ t, (∑ x : Fin 32, if ch x.val t = true then 1 else 0) ≤ 2) (n : ℕ) : ∑ x : Fin 32, cnt ch x.val n ≤ 2 * n := by
  induction n with
  | zero => simp [cnt]
  | succ n ih =>
    have := h n
    rw [Finset.sum_congr rfl fun x _ => cnt_succ ch x.val n, Finset.sum_add_distrib]
    omega

theorem first_sum (n : ℕ) : first ch n ≤ (∑ x : Fin n, cnt ch x.val 32768) + n * 255 := by
  induction n with
  | zero => simp [first]
  | succ n ih =>
    rw [first_succ, Fin.sum_univ_castSucc]
    have : padded ch n ≤ cnt ch n 32768 + 255 := by unfold padded; omega
    simp only [Fin.val_castSucc, Fin.val_last]
    omega

/-- All slots lie below 73728. -/
theorem first_le (h : ∀ t, (∑ x : Fin 32, if ch x.val t = true then 1 else 0) ≤ 2) : first ch 32 ≤ 73728 := by
  have h1 := first_sum (ch := ch) 32
  have h2 := cnt_sum h 32768
  omega

theorem padded_le (x : ℕ) : padded ch x ≤ 33024 := by
  have := cnt_le ch x 32768
  unfold padded; omega

theorem first_le' (x : ℕ) : first ch x ≤ x * 33024 := by
  induction x with
  | zero => simp [first]
  | succ x ih => rw [first_succ]; have := padded_le (ch := ch) x; omega

/-- The tile of one of expert `x`'s slots begins at or behind the ends of exactly `x` experts' slots. -/
theorem tile_count {x p : ℕ} (hx : x < 32) (h1 : first ch x ≤ p) (h2 : p < first ch (x + 1)) :
    (∑ y : Fin 32, if first ch (y.val + 1) ≤ p / 256 * 256 then 1 else 0) = x := by
  have e : ∀ y : Fin 32, (if first ch (y.val + 1) ≤ p / 256 * 256 then 1 else 0) = if y.val < x then 1 else 0 := fun y => by
    by_cases q : y.val < x
    · have h3 := first_mono ch (show y.val + 1 ≤ x by omega)
      obtain ⟨k, hk⟩ := first_dvd ch (y.val + 1)
      rw [if_pos q, if_pos (by omega)]
    · have h3 := first_mono ch (show x + 1 ≤ y.val + 1 by omega)
      rw [if_neg q, if_neg (by omega)]
  rw [Finset.sum_congr rfl fun y _ => e y, Fin.sum_univ_eq_sum_range (fun y => if y < x then 1 else 0) 32, ← Finset.sum_filter,
    show (Finset.range 32).filter (fun y => y < x) = Finset.range x from by ext y; simp; omega]
  simp

/-- The tile of a slot is one of the tiles that hold slots. -/
theorem tile_lt {p n : ℕ} (h : p < first ch n) : p / 256 < first ch n / 256 := by
  obtain ⟨k, hk⟩ := first_dvd ch n
  omega

/-- Adding up the choices of a stretch of tokens. -/
theorem cnt_stretch (x a n : ℕ) : cnt ch x a + ((List.range n).map fun j => if ch x (a + j) = true then 1 else 0).sum = cnt ch x (a + n) := by
  induction n with
  | zero => simp
  | succ n ih =>
    rw [List.range_succ, List.map_append, List.sum_append, ← add_assoc, ih, ← add_assoc a n 1, cnt_succ]; simp

/-- Adding up the counts of the first tiles of 512 tokens. -/
theorem cnt_tiles (x n : ℕ) : ((List.range n).map fun i => cnt ch x (512 * (i + 1)) - cnt ch x (512 * i)).sum = cnt ch x (512 * n) := by
  induction n with
  | zero => simp [cnt]
  | succ n ih =>
    have := cnt_mono ch x (show 512 * n ≤ 512 * (n + 1) by omega)
    rw [List.range_succ, List.map_append, List.sum_append, ih]; simp; omega

theorem cnt_tiles_fin (x : ℕ) : (∑ i : Fin 64, (cnt ch x (512 * (i.val + 1)) - cnt ch x (512 * i.val))) = cnt ch x 32768 := by
  rw [Fin.sum_univ_eq_sum_range (fun i => cnt ch x (512 * (i + 1)) - cnt ch x (512 * i)) 64]
  exact cnt_tiles x 64

attribute [irreducible] cnt padded first slotOf

end Cert.Moe
-- ==== Proof.Moe.Host.lean ====
module

public import proofs.«01_k».proof.Proof.Gen.Kernel2.Launch
public import proofs.«01_k».proof.Proof.Moe.Word
public import proofs.«01_k».proof.Proof.Moe.Counts

/-! # The host code that plans the tiles, stage by stage

Each stage's elements are stated over arbitrary contents `W` at its entry. -/

@[expose] public section
set_option maxRecDepth 16384
noncomputable section
namespace Cert.Moe
open Cert.Kernel2 Cert.Kernel2.Gen Idealize.ShloMosaic Idealize.ShloMosaic.TcCoe Idealize.SL.Sem
  Idealize.ShloMosaic.StableHlo

/-- The contents of the buffers. -/
abbrev Vals := Valuation τ sig (Elt Ideal)

variable (W : Vals)

def s1 : Vals := StableHlo.after hostOps0 W
def s2 : Vals := StableHlo.after hostOps0_1 W
def s3 : Vals := StableHlo.after (List.flatten [hostOps0_2, hostOps0_3, hostOps0_4]) W
def s4 : Vals := StableHlo.after hostOps0_5 W
def s5 : Vals := StableHlo.after (List.flatten [hostOps0_6, hostOps0_7, hostOps0_8]) W
def s6 : Vals := StableHlo.after hostOps0_9 W
def s7 : Vals := StableHlo.after (List.flatten [hostOps0_10, hostOps0_11, hostOps0_12, hostOps0_13]) W
def s8 : Vals := StableHlo.after hostOps0_14 W
def s9 : Vals := StableHlo.after hostOps0_15 W

theorem s1_v6 (i : Fin 64) (r : Fin 512) (k : Fin 2) (x : Fin 32) : (s1 W (Proc.devRef .tc main_v6) : S64x512x2x32.Idx → BitVec 1) (ix4 i r k x)
    = IntOp.cmpi CmpIPredicate.eq ((W (Proc.devRef .tc main_arg1) : S32768x2.Idx → BitVec 32) (ix2 ⟨i.val * 512 + r.val, by omega⟩ k)) (BitVec.ofNat 32 x.val) := by
  unfold s1; after_reads_at
theorem s1_v12 (i : Fin 64) (r : Fin 512) (x : Fin 32) : (s1 W (Proc.devRef .tc main_v12) : S64x512x32.Idx → BitVec 32) (ix3 i r x)
    = BitVec.setWidth 32 (IntOp.ori (IntOp.cmpi CmpIPredicate.eq ((W (Proc.devRef .tc main_arg1) : S32768x2.Idx → BitVec 32) (ix2 ⟨i.val * 512 + r.val, by omega⟩ 0)) (BitVec.ofNat 32 x.val))
        (IntOp.cmpi CmpIPredicate.eq ((W (Proc.devRef .tc main_arg1) : S32768x2.Idx → BitVec 32) (ix2 ⟨i.val * 512 + r.val, by omega⟩ 1)) (BitVec.ofNat 32 x.val))) := by
  unfold s1; after_reads_at
theorem s2_v13 (f : ℕ → ℕ) (i : Fin 64) (x : Fin 32)
    (h : ∀ r : Fin 512, (W (Proc.devRef .tc main_v12) : S64x512x32.Idx → BitVec 32) (ix3 i r x) = BitVec.ofNat 32 (f r.val)) (r : Fin 512) :
    (s2 W (Proc.devRef .tc main_v13) : S64x512x32.Idx → BitVec 32) (ix3 i r x) = BitVec.ofNat 32 ((List.range (r.val + 1)).map f).sum := by
  unfold s2
  after_reads_at
  exact running f i x _ h _ (fun _ => rfl) _ _ r
theorem s3_v19 (t : Fin 32768) (k : Fin 2) : (s3 W (Proc.devRef .tc main_v19) : S32768x2.Idx → BitVec 32) (ix2 t k)
    = IntOp.subi (Finset.fold IntOp.addi 0#32 (fun x => Scalar.select ((W (Proc.devRef .tc main_v6) : S64x512x2x32.Idx → BitVec 1) (ix4 ⟨t.val / 512, by omega⟩ ⟨t.val % 512, by omega⟩ k x))
        ((W (Proc.devRef .tc main_v13) : S64x512x32.Idx → BitVec 32) (ix3 ⟨t.val / 512, by omega⟩ ⟨t.val % 512, by omega⟩ x)) 0#32) Finset.univ) 1#32 := by
  unfold s3; after_reads_at; rfl
theorem s3_v21 (i : Fin 64) (x : Fin 32) : (s3 W (Proc.devRef .tc main_v21) : S64x32.Idx → BitVec 32) (ix2 i x)
    = (W (Proc.devRef .tc main_v13) : S64x512x32.Idx → BitVec 32) (ix3 i 511 x) := by
  unfold s3; after_reads_at
theorem s4_v22 (f : ℕ → ℕ → ℕ) (h : ∀ (i : Fin 64) (x : Fin 32), (W (Proc.devRef .tc main_v21) : S64x32.Idx → BitVec 32) (ix2 i x) = BitVec.ofNat 32 (f i.val x.val))
    (i : Fin 64) (x : Fin 32) :
    (s4 W (Proc.devRef .tc main_v22) : S64x32.Idx → BitVec 32) (ix2 i x) = BitVec.ofNat 32 ((List.range (i.val + 1)).map fun j => f j x.val).sum := by
  unfold s4
  after_reads_at
  try rw [ixw2]
  refine Routing.cumsum_rows (R := 64) (Rm1 := 63) (C := 32) rfl _ f (fun i c => ?_) _ rfl _ _ i x
  rw [← ixw2]; exact h i c
theorem s5_v23 (i : Fin 64) (x : Fin 32) : (s5 W (Proc.devRef .tc main_v23) : S64x32.Idx → BitVec 32) (ix2 i x)
    = IntOp.subi ((W (Proc.devRef .tc main_v22) : S64x32.Idx → BitVec 32) (ix2 i x)) ((W (Proc.devRef .tc main_v21) : S64x32.Idx → BitVec 32) (ix2 i x)) := by
  unfold s5; after_reads_at
theorem s5_v31 (f : ℕ → ℕ → ℕ) (h : ∀ (i : Fin 64) (x : Fin 32), (W (Proc.devRef .tc main_v21) : S64x32.Idx → BitVec 32) (ix2 i x) = BitVec.ofNat 32 (f i.val x.val))
    (x : Fin 32) (hb : (∑ i : Fin 64, f i.val x.val) ≤ 32768) :
    (s5 W (Proc.devRef .tc main_v31) : S32.Idx → BitVec 32) (ix1 x) = BitVec.ofNat 32 (((∑ i : Fin 64, f i.val x.val) + 255) / 256 * 256) := by
  have hs : IntOp.subi (IntOp.addi (Finset.fold IntOp.addi 0#32 (fun i : Fin 64 => (W (Proc.devRef .tc main_v21) : S64x32.Idx → BitVec 32) (ix2 i x)) Finset.univ) 256#32) 1#32
      = BitVec.ofNat 32 ((∑ i : Fin 64, f i.val x.val) + 255) := by
    rw [fold_addw _ _ (fun i : Fin 64 => f i.val x.val) fun i _ => h i x]
    exact (congrArg (IntOp.subi · 1#32) (addw _ 256)).trans (subw (by omega))
  unfold s5
  after_reads_at
  refine Eq.trans ?_ (mulw _ 256)
  exact congrArg (IntOp.muli · 256#32) (floor256 (n := (∑ i : Fin 64, f i.val x.val) + 255) (by omega) _ _ hs rfl)
theorem s6_v32 (f : ℕ → ℕ) (h : ∀ x : Fin 32, (W (Proc.devRef .tc main_v31) : S32.Idx → BitVec 32) (ix1 x) = BitVec.ofNat 32 (f x.val)) (x : Fin 32) :
    (s6 W (Proc.devRef .tc main_v32) : S32.Idx → BitVec 32) (ix1 x) = BitVec.ofNat 32 ((List.range (x.val + 1)).map f).sum := by
  unfold s6
  after_reads_at
  try rw [ixw1]
  refine Routing.cumsum1 (N := 32) (Nm1 := 31) rfl _ f (fun i => ?_) _ rfl _ _ x
  rw [← ixw1]; exact h i
theorem s7_v48 (t : Fin 32768) (k : Fin 2) : (s7 W (Proc.devRef .tc main_v48) : S32768x2.Idx → BitVec 32) (ix2 t k)
    = IntOp.addi (Finset.fold IntOp.addi 0#32 (fun x : Fin 32 => Scalar.select (IntOp.cmpi CmpIPredicate.eq ((W (Proc.devRef .tc main_arg1) : S32768x2.Idx → BitVec 32) (ix2 t k)) (BitVec.ofNat 32 x.val))
        (IntOp.addi (IntOp.subi ((W (Proc.devRef .tc main_v32) : S32.Idx → BitVec 32) (ix1 x)) ((W (Proc.devRef .tc main_v31) : S32.Idx → BitVec 32) (ix1 x)))
          ((W (Proc.devRef .tc main_v23) : S64x32.Idx → BitVec 32) (ix2 ⟨t.val / 512, by omega⟩ x))) 0#32) Finset.univ)
        ((W (Proc.devRef .tc main_v19) : S32768x2.Idx → BitVec 32) (ix2 t k)) := by
  unfold s7; after_reads_at; rfl
theorem s7_v60 (j : Fin 288) : (s7 W (Proc.devRef .tc main_v60) : S288.Idx → BitVec 32) (ix1 j)
    = IntOp.minsi (Finset.fold IntOp.addi 0#32 (fun x : Fin 32 => BitVec.setWidth 32 (IntOp.cmpi CmpIPredicate.sge (IntOp.muli (BitVec.ofNat 32 j.val) 256#32)
        ((W (Proc.devRef .tc main_v32) : S32.Idx → BitVec 32) (ix1 x)))) Finset.univ) 31#32 := by
  unfold s7; after_reads_at
theorem s7_v63 (n : ℕ) (hn : n < 2 ^ 31) (h : (W (Proc.devRef .tc main_v32) : S32.Idx → BitVec 32) (ix1 31) = BitVec.ofNat 32 n) :
    (s7 W (Proc.devRef .tc main_v63) : S_.Idx → BitVec 32) ix0 = BitVec.ofNat 32 (n / 256) := by
  unfold s7
  after_reads_at
  exact floor256 hn _ _ h rfl
theorem s8_v64 : (s8 W (Proc.devRef .tc main_v64) : S1.Idx → BitVec 32) (ix1 0) = (W (Proc.devRef .tc main_v63) : S_.Idx → BitVec 32) ix0 := by
  unfold s8; after_reads_at
theorem s8_v77 (t : Fin 32768) (l : Fin 1024) : (s8 W (Proc.devRef .tc main_v77) : S32768x1024.Idx → EReal) (ix2 t l)
    = (W (Proc.devRef .tc main_arg0) : S32768x1024.Idx → EReal) (ix2 t l) := by
  unfold s8; after_reads_at
theorem s8_v76 (f : ℕ → ℕ) (hf : ∀ n : Fin 65536, f n.val < 73728)
    (h : ∀ (n : Fin 65536), (W (Proc.devRef .tc main_v48) : S32768x2.Idx → BitVec 32) (ix2 ⟨n.val / 2, by omega⟩ ⟨n.val % 2, by omega⟩) = BitVec.ofNat 32 (f n.val))
    (inj : ∀ n m : Fin 65536, f n.val = f m.val → n.val / 2 = m.val / 2) (n : Fin 65536) :
    (s8 W (Proc.devRef .tc main_v76) : S73728.Idx → BitVec 32) (ix1 ⟨f n.val, hf n⟩) = BitVec.ofNat 32 (n.val / 2) := by
  unfold s8
  after_reads_at
  have hidx : ∀ (w : IVec S65536x1 32), (∀ k : Fin 65536, w (ix2 k 0) = BitVec.ofNat 32 (f k.val)) → ∀ k (e : Fin 73728),
      scatter_S73728_S65536x1_S65536_n_0_0_1.resultIdx? (ix1 k) w = some (ix1 e) ↔ f k.val = e.val := fun w hw k e => by
    rw [lands _ rfl rfl rfl rfl, hw k, BitVec.toInt_eq_toNat_of_lt (by rw [BitVec.toNat_ofNat]; have := hf k; omega), BitVec.toNat_ofNat, Nat.mod_eq_of_lt (by have := hf k; omega)]
    exact Nat.cast_inj
  refine Routing.scatter_set_hit _ _ _ _ _ _ (fun k hk => ?_) (ix1 n) ((hidx _ (fun k => ?_) n _).2 rfl)
  · obtain ⟨k, rfl⟩ : ∃ k' : Fin 65536, k = ix1 k' := ⟨k 0, funext fun d => match d with | ⟨0, _⟩ => rfl⟩
    have := (hidx _ (fun k => ?_) k _).1 hk
    · exact congrArg (BitVec.ofNat 32) (inj k n this)
    · exact wrap_id (by have := hf k; omega) _ _ (h k)
  · exact wrap_id (by have := hf k; omega) _ _ (h k)
theorem s9_v78 (p : Fin 73728) (t : Fin 32768) (h : (W (Proc.devRef .tc main_v76) : S73728.Idx → BitVec 32) (ix1 p) = BitVec.ofNat 32 t.val) (l : Fin 1024) :
    (s9 W (Proc.devRef .tc main_v78) : S73728x1024.Idx → EReal) (ix2 p l) = (W (Proc.devRef .tc main_v77) : S32768x1024.Idx → EReal) (ix2 t l) := by
  have hw := wrap_id (n := t.val) (by omega) _ 32768#32 h
  unfold s9
  after_reads_at
  rw [bounds_id (n := t.val) (b := 32767) (by norm_num) (by omega) _ hw]
  rw [ixw2, ixw2]
  refine Routing.gather_row (nb := 32768) (B := 1024) (n := 73728) _ rfl rfl rfl rfl rfl _ _ p l t ?_ (by norm_num)
  rw [← ixw2]
  refine Eq.trans ?_ hw
  pointwise

end Cert.Moe
end
-- ==== Proof.Moe.Plan.lean ====
module

public import proofs.«01_k».proof.Proof.Moe.Run
public import proofs.«01_k».proof.Proof.Moe.Host

/-! # What the plan holds

The stages in sequence: the slot of every choice, the tokens' numbers in slot order, the expert of every tile, and the number of tiles that hold slots. -/

@[expose] public section
set_option maxRecDepth 16384
noncomputable section
namespace Cert.Moe
open Cert.Kernel2 Cert.Kernel2.Gen Idealize.ShloMosaic Idealize.ShloMosaic.TcCoe Idealize.SL.Sem
  Idealize.ShloMosaic.StableHlo

variable (W : Vals)

/-! ## What the stages leave alone -/

theorem s1_keep_arg1 : s1 W (Proc.devRef .tc main_arg1) = W (Proc.devRef .tc main_arg1) := by unfold s1; after_reads_simp
theorem s2_keep_arg1 : s2 W (Proc.devRef .tc main_arg1) = W (Proc.devRef .tc main_arg1) := by unfold s2; after_reads_simp
theorem s3_keep_arg1 : s3 W (Proc.devRef .tc main_arg1) = W (Proc.devRef .tc main_arg1) := by unfold s3; after_reads_simp
theorem s4_keep_arg1 : s4 W (Proc.devRef .tc main_arg1) = W (Proc.devRef .tc main_arg1) := by unfold s4; after_reads_simp
theorem s5_keep_arg1 : s5 W (Proc.devRef .tc main_arg1) = W (Proc.devRef .tc main_arg1) := by unfold s5; after_reads_simp
theorem s6_keep_arg1 : s6 W (Proc.devRef .tc main_arg1) = W (Proc.devRef .tc main_arg1) := by unfold s6; after_reads_simp
theorem s1_keep_arg0 : s1 W (Proc.devRef .tc main_arg0) = W (Proc.devRef .tc main_arg0) := by unfold s1; after_reads_simp
theorem s2_keep_arg0 : s2 W (Proc.devRef .tc main_arg0) = W (Proc.devRef .tc main_arg0) := by unfold s2; after_reads_simp
theorem s3_keep_arg0 : s3 W (Proc.devRef .tc main_arg0) = W (Proc.devRef .tc main_arg0) := by unfold s3; after_reads_simp
theorem s4_keep_arg0 : s4 W (Proc.devRef .tc main_arg0) = W (Proc.devRef .tc main_arg0) := by unfold s4; after_reads_simp
theorem s5_keep_arg0 : s5 W (Proc.devRef .tc main_arg0) = W (Proc.devRef .tc main_arg0) := by unfold s5; after_reads_simp
theorem s6_keep_arg0 : s6 W (Proc.devRef .tc main_arg0) = W (Proc.devRef .tc main_arg0) := by unfold s6; after_reads_simp
theorem s7_keep_arg0 : s7 W (Proc.devRef .tc main_arg0) = W (Proc.devRef .tc main_arg0) := by unfold s7; after_reads_simp
theorem s2_keep_v6 : s2 W (Proc.devRef .tc main_v6) = W (Proc.devRef .tc main_v6) := by unfold s2; after_reads_simp
theorem s4_keep_v19 : s4 W (Proc.devRef .tc main_v19) = W (Proc.devRef .tc main_v19) := by unfold s4; after_reads_simp
theorem s5_keep_v19 : s5 W (Proc.devRef .tc main_v19) = W (Proc.devRef .tc main_v19) := by unfold s5; after_reads_simp
theorem s6_keep_v19 : s6 W (Proc.devRef .tc main_v19) = W (Proc.devRef .tc main_v19) := by unfold s6; after_reads_simp
theorem s4_keep_v21 : s4 W (Proc.devRef .tc main_v21) = W (Proc.devRef .tc main_v21) := by unfold s4; after_reads_simp
theorem s6_keep_v23 : s6 W (Proc.devRef .tc main_v23) = W (Proc.devRef .tc main_v23) := by unfold s6; after_reads_simp
theorem s6_keep_v31 : s6 W (Proc.devRef .tc main_v31) = W (Proc.devRef .tc main_v31) := by unfold s6; after_reads_simp
theorem s8_keep_v48 : s8 W (Proc.devRef .tc main_v48) = W (Proc.devRef .tc main_v48) := by unfold s8; after_reads_simp
theorem s9_keep_v48 : s9 W (Proc.devRef .tc main_v48) = W (Proc.devRef .tc main_v48) := by unfold s9; after_reads_simp
theorem s8_keep_v60 : s8 W (Proc.devRef .tc main_v60) = W (Proc.devRef .tc main_v60) := by unfold s8; after_reads_simp
theorem s9_keep_v60 : s9 W (Proc.devRef .tc main_v60) = W (Proc.devRef .tc main_v60) := by unfold s9; after_reads_simp
theorem s9_keep_v64 : s9 W (Proc.devRef .tc main_v64) = W (Proc.devRef .tc main_v64) := by unfold s9; after_reads_simp

/-! ## The stages' values -/

/-- The word that names choice `k` of token `t`. -/
def choice (t : Fin 32768) (k : Fin 2) : BitVec 32 := (W (Proc.devRef .tc main_arg1) : S32768x2.Idx → BitVec 32) (ix2 t k)

/-- Whether token `t` chose expert `x`. -/
def ch (x t : ℕ) : Bool := if h : t < 32768 then decide (choice W ⟨t, h⟩ 0 = BitVec.ofNat 32 x ∨ choice W ⟨t, h⟩ 1 = BitVec.ofNat 32 x) else false

theorem choice_at (t : Fin 32768) (k : Fin 2) (a : Fin 32768) (h : a.val = t.val) :
    (W (Proc.devRef .tc main_arg1) : S32768x2.Idx → BitVec 32) (ix2 a k) = choice W t k := by
  rw [Fin.ext h]; rfl

theorem w1_v12 (i : Fin 64) (r : Fin 512) (x : Fin 32) : (s1 W (Proc.devRef .tc main_v12) : S64x512x32.Idx → BitVec 32) (ix3 i r x)
    = BitVec.ofNat 32 (if ch W x.val (512 * i.val + r.val) = true then 1 else 0) := by
  have hl : 512 * i.val + r.val < 32768 := by omega
  rw [s1_v12, choice_at W ⟨512 * i.val + r.val, hl⟩ 0 _ (by simp; omega), choice_at W ⟨512 * i.val + r.val, hl⟩ 1 _ (by simp; omega), WordCmp.cmpi_eq_eq, WordCmp.cmpi_eq_eq, WordCmp.ori_ofBool]
  unfold ch
  rw [dif_pos hl, Bool.decide_or]
  cases (decide (choice W ⟨512 * i.val + r.val, hl⟩ 0 = BitVec.ofNat 32 x.val) || decide (choice W ⟨512 * i.val + r.val, hl⟩ 1 = BitVec.ofNat 32 x.val)) <;> rfl

theorem w2_v13 (i : Fin 64) (r : Fin 512) (x : Fin 32) : (s2 (s1 W) (Proc.devRef .tc main_v13) : S64x512x32.Idx → BitVec 32) (ix3 i r x)
    = BitVec.ofNat 32 (cnt (ch W) x.val (512 * i.val + (r.val + 1)) - cnt (ch W) x.val (512 * i.val)) := by
  rw [s2_v13 _ (fun j => if ch W x.val (512 * i.val + j) = true then 1 else 0) i x (fun r => w1_v12 W i r x) r, ← cnt_stretch, Nat.add_sub_cancel_left]

theorem w3_v21 (i : Fin 64) (x : Fin 32) : (s3 (s2 (s1 W)) (Proc.devRef .tc main_v21) : S64x32.Idx → BitVec 32) (ix2 i x)
    = BitVec.ofNat 32 (cnt (ch W) x.val (512 * (i.val + 1)) - cnt (ch W) x.val (512 * i.val)) := by
  rw [s3_v21, w2_v13]; rfl

theorem ch_of {t : Fin 32768} {k : Fin 2} {y : Fin 32} (h : choice W t k = BitVec.ofNat 32 y.val) : ch W y.val t.val = true := by
  unfold ch
  rw [dif_pos t.isLt, decide_eq_true_iff]
  match k with
  | ⟨0, _⟩ => exact Or.inl h
  | ⟨1, _⟩ => exact Or.inr h

theorem w3_v19 (t : Fin 32768) (k : Fin 2) (y : Fin 32) (h : choice W t k = BitVec.ofNat 32 y.val) : (s3 (s2 (s1 W)) (Proc.devRef .tc main_v19) : S32768x2.Idx → BitVec 32) (ix2 t k)
    = BitVec.ofNat 32 (cnt (ch W) y.val t.val - cnt (ch W) y.val (512 * (t.val / 512))) := by
  have hv6 : ∀ x : Fin 32, (s2 (s1 W) (Proc.devRef .tc main_v6) : S64x512x2x32.Idx → BitVec 1) (ix4 ⟨t.val / 512, by omega⟩ ⟨t.val % 512, by omega⟩ k x)
      = IntOp.cmpi CmpIPredicate.eq (choice W t k) (BitVec.ofNat 32 x.val) := fun x => by
    rw [s2_keep_v6, s1_v6, choice_at W t k _ (by simp; omega)]
  rw [s3_v19]
  simp only [hv6]
  rw [fold_pick y _ h _ _ fun x => w2_v13 W _ _ x]
  have h1 := cnt_succ (ch W) y.val t.val
  rw [if_pos (ch_of W h)] at h1
  have h2 := cnt_mono (ch W) y.val (show 512 * (t.val / 512) ≤ t.val by omega)
  have h3 : 512 * (t.val / 512) + (t.val % 512 + 1) = t.val + 1 := by omega
  refine (subw (b := 1) ?_).trans ?_
  · simp only [h3]; omega
  · simp only [h3]; congr 1; omega

theorem w4_v22 (i : Fin 64) (x : Fin 32) : (s4 (s3 (s2 (s1 W))) (Proc.devRef .tc main_v22) : S64x32.Idx → BitVec 32) (ix2 i x)
    = BitVec.ofNat 32 (cnt (ch W) x.val (512 * (i.val + 1))) := by
  rw [s4_v22 _ (fun i x => cnt (ch W) x (512 * (i + 1)) - cnt (ch W) x (512 * i)) (fun i x => w3_v21 W i x) i x, cnt_tiles]

theorem w4_v21 (i : Fin 64) (x : Fin 32) : (s4 (s3 (s2 (s1 W))) (Proc.devRef .tc main_v21) : S64x32.Idx → BitVec 32) (ix2 i x)
    = BitVec.ofNat 32 (cnt (ch W) x.val (512 * (i.val + 1)) - cnt (ch W) x.val (512 * i.val)) := by
  rw [s4_keep_v21]; exact w3_v21 W i x

theorem w5_v23 (i : Fin 64) (x : Fin 32) : (s5 (s4 (s3 (s2 (s1 W)))) (Proc.devRef .tc main_v23) : S64x32.Idx → BitVec 32) (ix2 i x)
    = BitVec.ofNat 32 (cnt (ch W) x.val (512 * i.val)) := by
  have h2 := cnt_mono (ch W) x.val (show 512 * i.val ≤ 512 * (i.val + 1) by omega)
  rw [s5_v23, w4_v22, w4_v21, subw (by omega)]
  congr 1; omega

theorem w5_v31 (x : Fin 32) : (s5 (s4 (s3 (s2 (s1 W)))) (Proc.devRef .tc main_v31) : S32.Idx → BitVec 32) (ix1 x) = BitVec.ofNat 32 (padded (ch W) x.val) := by
  rw [s5_v31 _ (fun i x => cnt (ch W) x (512 * (i + 1)) - cnt (ch W) x (512 * i)) (fun i x => w4_v21 W i x) x (by
    rw [cnt_tiles_fin]; exact cnt_le _ _ _), cnt_tiles_fin]
  unfold padded; rfl

theorem w6_v32 (x : Fin 32) : (s6 (s5 (s4 (s3 (s2 (s1 W))))) (Proc.devRef .tc main_v32) : S32.Idx → BitVec 32) (ix1 x) = BitVec.ofNat 32 (first (ch W) (x.val + 1)) :=
  (s6_v32 _ (padded (ch W)) (fun x => w5_v31 W x) x).trans (by unfold first; rfl)

theorem w7_v48 (t : Fin 32768) (k : Fin 2) (y : Fin 32) (h : choice W t k = BitVec.ofNat 32 y.val) : (s7 (s6 (s5 (s4 (s3 (s2 (s1 W)))))) (Proc.devRef .tc main_v48) : S32768x2.Idx → BitVec 32) (ix2 t k)
    = BitVec.ofNat 32 (slotOf (ch W) y.val t.val) := by
  have h1 : (s6 (s5 (s4 (s3 (s2 (s1 W))))) (Proc.devRef .tc main_arg1) : S32768x2.Idx → BitVec 32) (ix2 t k) = BitVec.ofNat 32 y.val := by
    rw [s6_keep_arg1, s5_keep_arg1, s4_keep_arg1, s3_keep_arg1, s2_keep_arg1, s1_keep_arg1]; exact h
  have h2 : (s6 (s5 (s4 (s3 (s2 (s1 W))))) (Proc.devRef .tc main_v19) : S32768x2.Idx → BitVec 32) (ix2 t k) = BitVec.ofNat 32 (cnt (ch W) y.val t.val - cnt (ch W) y.val (512 * (t.val / 512))) := by
    rw [s6_keep_v19, s5_keep_v19, s4_keep_v19]; exact w3_v19 W t k y h
  have h3 := cnt_mono (ch W) y.val (show 512 * (t.val / 512) ≤ t.val by omega)
  rw [s7_v48, h2, fold_pick y _ h1 _ (fun x => first (ch W) x.val + cnt (ch W) x.val (512 * (t.val / 512))) fun x => ?_, addw]
  · unfold slotOf; congr 1; omega
  · have h4 := first_succ (ch W) x.val
    rw [w6_v32, s6_keep_v31, w5_v31, s6_keep_v23, w5_v23, subw (by omega), addw]
    congr 2; omega

/-- Every tile's word names an expert, whatever the choices are. -/
theorem w7_v60_lt (j : Fin 288) : ((s7 (s6 (s5 (s4 (s3 (s2 (s1 W)))))) (Proc.devRef .tc main_v60) : S288.Idx → BitVec 32) (ix1 j)).toNat < 32 := by
  rw [s7_v60, fold_addw _ _ (fun x : Fin 32 => (IntOp.cmpi CmpIPredicate.sge (IntOp.muli (BitVec.ofNat 32 j.val) 256#32)
        ((s6 (s5 (s4 (s3 (s2 (s1 W))))) (Proc.devRef .tc main_v32) : S32.Idx → BitVec 32) (ix1 x))).toNat) fun x _ => extw _]
  have hb : (∑ x : Fin 32, (IntOp.cmpi CmpIPredicate.sge (IntOp.muli (BitVec.ofNat 32 j.val) 256#32)
        ((s6 (s5 (s4 (s3 (s2 (s1 W))))) (Proc.devRef .tc main_v32) : S32.Idx → BitVec 32) (ix1 x))).toNat) ≤ 32 :=
    (Finset.sum_le_card_nsmul _ _ 1 fun x _ => Nat.le_of_lt_succ (BitVec.isLt _)).trans (by simp)
  generalize (∑ x : Fin 32, (IntOp.cmpi CmpIPredicate.sge (IntOp.muli (BitVec.ofNat 32 j.val) 256#32)
        ((s6 (s5 (s4 (s3 (s2 (s1 W))))) (Proc.devRef .tc main_v32) : S32.Idx → BitVec 32) (ix1 x))).toNat) = n at hb ⊢
  rw [minw ⟨n, by omega⟩, BitVec.toNat_ofNat]
  simp only
  omega

theorem w7_v60 (j : Fin 288) (x : Fin 32) (p : ℕ) (hp : p / 256 = j.val) (h1 : first (ch W) x.val ≤ p) (h2 : p < first (ch W) (x.val + 1)) :
    (s7 (s6 (s5 (s4 (s3 (s2 (s1 W)))))) (Proc.devRef .tc main_v60) : S288.Idx → BitVec 32) (ix1 j) = BitVec.ofNat 32 x.val := by
  rw [s7_v60, fold_addw _ _ (fun y : Fin 32 => if first (ch W) (y.val + 1) ≤ p / 256 * 256 then 1 else 0) fun y _ => ?_, tile_count x.isLt h1 h2]
  · rw [minw ⟨x.val, by omega⟩]
    congr 1; simp; omega
  · have hf := first_le' (ch := ch W) (y.val + 1)
    have hj := j.isLt
    rw [w6_v32, hp, show (256#32) = BitVec.ofNat 32 256 from rfl, mulw, WordCmp.cmpi_sge_ofNat (by norm_num; omega) (by norm_num; omega)]
    by_cases q : first (ch W) (y.val + 1) ≤ j.val * 256
    · rw [if_pos q, decide_eq_true q]; rfl
    · rw [if_neg q, decide_eq_false q]; rfl

theorem w8_v64 : (s8 (s7 (s6 (s5 (s4 (s3 (s2 (s1 W))))))) (Proc.devRef .tc main_v64) : S1.Idx → BitVec 32) (ix1 0) = BitVec.ofNat 32 (first (ch W) 32 / 256) := by
  have hf := first_le' (ch := ch W) 32
  rw [s8_v64]
  exact s7_v63 _ _ (by omega) (w6_v32 W 31)

theorem w8_v77 (t : Fin 32768) (l : Fin 1024) : (s8 (s7 (s6 (s5 (s4 (s3 (s2 (s1 W))))))) (Proc.devRef .tc main_v77) : S32768x1024.Idx → EReal) (ix2 t l)
    = (W (Proc.devRef .tc main_arg0) : S32768x1024.Idx → EReal) (ix2 t l) := by
  rw [s8_v77, s7_keep_arg0, s6_keep_arg0, s5_keep_arg0, s4_keep_arg0, s3_keep_arg0, s2_keep_arg0, s1_keep_arg0]

/-! ## The plan, where every word names an expert -/

/-- A token chooses at most two experts. -/
theorem two (t : ℕ) : (∑ x : Fin 32, if ch W x.val t = true then 1 else 0) ≤ 2 := by
  have one : ∀ w : BitVec 32, (∑ x : Fin 32, if w = BitVec.ofNat 32 x.val then 1 else 0) ≤ 1 := fun w => by
    rw [Finset.sum_boole]
    refine Finset.card_le_one.2 fun a ha b hb => ?_
    have h := ((Finset.mem_filter.1 ha).2).symm.trans (Finset.mem_filter.1 hb).2
    have h' := congrArg BitVec.toNat h
    have := a.isLt; have := b.isLt
    rw [BitVec.toNat_ofNat, BitVec.toNat_ofNat, Nat.mod_eq_of_lt (by omega), Nat.mod_eq_of_lt (by omega)] at h'
    exact Fin.ext h'
  by_cases ht : t < 32768
  · refine le_trans (Finset.sum_le_sum fun x _ => ?_) (Finset.sum_add_distrib.trans_le (Nat.add_le_add (one (choice W ⟨t, ht⟩ 0)) (one (choice W ⟨t, ht⟩ 1))))
    unfold ch
    rw [dif_pos ht]
    by_cases p : choice W ⟨t, ht⟩ 0 = BitVec.ofNat 32 x.val <;> by_cases q : choice W ⟨t, ht⟩ 1 = BitVec.ofNat 32 x.val <;> simp [p, q]
  · simp [ch, ht]

variable (Y : Fin 32768 → Fin 2 → Fin 32) (hY : ∀ t k, choice W t k = BitVec.ofNat 32 (Y t k).val)
include hY

theorem slot_in (t : Fin 32768) (k : Fin 2) : first (ch W) (Y t k).val ≤ slotOf (ch W) (Y t k).val t.val ∧ slotOf (ch W) (Y t k).val t.val < first (ch W) ((Y t k).val + 1) :=
  slot_mem (ch_of W (hY t k)) t.isLt

theorem slot_lt (t : Fin 32768) (k : Fin 2) : slotOf (ch W) (Y t k).val t.val < first (ch W) 32 := by
  have h1 := slot_in W Y hY t k
  have h2 := first_mono (ch W) (show (Y t k).val + 1 ≤ 32 by omega)
  omega

theorem slot_lt' (t : Fin 32768) (k : Fin 2) : slotOf (ch W) (Y t k).val t.val < 73728 := by
  have h1 := slot_lt W Y hY t k
  have h2 := first_le (ch := ch W) (two W)
  omega

theorem plan_v48 (t : Fin 32768) (k : Fin 2) : (s9 (s8 (s7 (s6 (s5 (s4 (s3 (s2 (s1 W)))))))) (Proc.devRef .tc main_v48) : S32768x2.Idx → BitVec 32) (ix2 t k)
    = BitVec.ofNat 32 (slotOf (ch W) (Y t k).val t.val) := by
  rw [s9_keep_v48, s8_keep_v48]; exact w7_v48 W t k _ (hY t k)

theorem plan_v60 (t : Fin 32768) (k : Fin 2) (j : Fin 288) (hj : j.val = slotOf (ch W) (Y t k).val t.val / 256) :
    (s9 (s8 (s7 (s6 (s5 (s4 (s3 (s2 (s1 W)))))))) (Proc.devRef .tc main_v60) : S288.Idx → BitVec 32) (ix1 j) = BitVec.ofNat 32 (Y t k).val := by
  rw [s9_keep_v60, s8_keep_v60]
  exact w7_v60 W j (Y t k) _ hj.symm (slot_in W Y hY t k).1 (slot_in W Y hY t k).2

omit hY in
theorem plan_v60_lt (j : Fin 288) : ((s9 (s8 (s7 (s6 (s5 (s4 (s3 (s2 (s1 W)))))))) (Proc.devRef .tc main_v60) : S288.Idx → BitVec 32) (ix1 j)).toNat < 32 := by
  rw [s9_keep_v60, s8_keep_v60]; exact w7_v60_lt W j

theorem plan_v64 (t : Fin 32768) (k : Fin 2) : slotOf (ch W) (Y t k).val t.val / 256 < ((s9 (s8 (s7 (s6 (s5 (s4 (s3 (s2 (s1 W)))))))) (Proc.devRef .tc main_v64) : S1.Idx → BitVec 32) (ix1 0)).toNat
    ∧ ((s9 (s8 (s7 (s6 (s5 (s4 (s3 (s2 (s1 W)))))))) (Proc.devRef .tc main_v64) : S1.Idx → BitVec 32) (ix1 0)).toNat ≤ 288 := by
  have h1 := tile_lt (ch := ch W) (slot_lt W Y hY t k)
  have h2 := first_le (ch := ch W) (two W)
  rw [s9_keep_v64, w8_v64, BitVec.toNat_ofNat, Nat.mod_eq_of_lt (by omega)]
  omega

theorem plan_v78 (t : Fin 32768) (k : Fin 2) (l : Fin 1024) : (s9 (s8 (s7 (s6 (s5 (s4 (s3 (s2 (s1 W)))))))) (Proc.devRef .tc main_v78) : S73728x1024.Idx → EReal) (ix2 ⟨slotOf (ch W) (Y t k).val t.val, slot_lt' W Y hY t k⟩ l)
    = (W (Proc.devRef .tc main_arg0) : S32768x1024.Idx → EReal) (ix2 t l) := by
  refine (s9_v78 _ _ t ?_ l).trans (w8_v77 W t l)
  have h := s8_v76 (s7 (s6 (s5 (s4 (s3 (s2 (s1 W))))))) (fun n => if h : n < 65536 then slotOf (ch W) (Y ⟨n / 2, by omega⟩ ⟨n % 2, by omega⟩).val (n / 2) else 0)
    (fun n => by
      simp only [dif_pos n.isLt]
      exact slot_lt' W Y hY ⟨n.val / 2, by omega⟩ _)
    (fun n => by
      simp only [dif_pos n.isLt]
      exact w7_v48 W ⟨n.val / 2, by omega⟩ ⟨n.val % 2, by omega⟩ _ (hY _ _))
    (fun n m q => by
      simp only [dif_pos n.isLt, dif_pos m.isLt] at q
      exact (slot_inj (ch_of W (hY ⟨n.val / 2, by omega⟩ _)) (ch_of W (hY ⟨m.val / 2, by omega⟩ _)) (by simp; omega) (by simp; omega) q).2)
    ⟨2 * t.val + k.val, by omega⟩
  have e1 : (2 * t.val + k.val) / 2 = t.val := by omega
  have e2 : (2 * t.val + k.val) % 2 = k.val := by omega
  simp only [e1, e2, dif_pos (show 2 * t.val + k.val < 65536 by omega)] at h
  exact h

end Cert.Moe
end
-- ==== Proof.Moe.Value.lean ====
/-
  What the expert kernel leaves in a block of its result, element by element: a tile below the valid count has the gated MLP of
  its rows with its expert's weights, a tile beyond it zeros; and the result array as one function of the arguments.
-/
module

public import proofs.«01_k».proof.Proof.Moe.Args
public import proofs.«01_k».proof.Proof.Moe.Plan
public import Idealize.ShloMosaic.PureOps.Ideal
public import Idealize.ShloMosaic.Lib.Pointwise
public import Idealize.ShloMosaic.Lib.Pipeline.ValueKit

@[expose] public section

set_option maxRecDepth 16384

noncomputable section

namespace Cert.Moe

open Cert.Kernel2 Cert.Kernel2.Gen Idealize.ShloMosaic Idealize.ShloMosaic.TcCoe Idealize.SL.Sem

/-- One hidden unit: the row against a column of weights. -/
def hidden (x : Fin 1024 → EReal) (w : Fin 1024 → EReal) : EReal := ∑ l, x l * w l

/-- The gate: the first unit through the logistic linear unit, times the second. -/
def gate (a b : EReal) : EReal := a * Ideal.div 1 (1 + Ideal.exp (0 - a)) * b

/-- One lane of the MLP of a row. -/
def mlp (x : Fin 1024 → EReal) (w1 w3 : Fin 1024 → Fin 512 → EReal) (w2 : Fin 512 → EReal) : EReal :=
  ∑ k, gate (hidden x fun l => w1 l k) (hidden x fun l => w3 l k) * w2 k

theorem zero_word : Ideal.ofBits .f32 0x00000000#32 = 0 := by simp [Ideal.ofBits, Ideal.ieee]
theorem one_word : Ideal.ofBits .f32 0x3F800000#32 = 1 := by
  simp [Ideal.ofBits, Ideal.ieee, -EReal.coe_mul]; norm_num
theorem zero_half : Ideal.ofBits .bf16 0x0000#16 = 0 := by simp [Ideal.ofBits, Ideal.ieee]

variable (x : Vec Ideal S256x1024 .bf16) (w1 w3 : Vec Ideal S1x1x1024x512 .f32) (w2 : Vec Ideal S1x1x512x1024 .f32)

/-- A tile's block below the valid count. -/
theorem tile_mlp (r : Fin 256) (l : Fin 1024) : k0_pay4 x (k0_pay1 w1) (k0_pay2 w3) (k0_pay3 w2) (ix2 r l)
    = mlp (fun d => x (ix2 r d)) (fun d k => w1 (ix4 0 0 d k)) (fun d k => w3 (ix4 0 0 d k)) (fun k => w2 (ix4 0 0 k l)) := by
  pointwise [k0_pay4, k0_pay1, k0_pay2, k0_pay3]
  rfl

/-- And beyond it. -/
theorem tile_zero (i : S256x1024.Idx) : k0_pay5 (F := Ideal) i = (0 : EReal) := zero_half

variable (m : Dev nD → Valuation τ sig (Elt Ideal)) (hO : Ok (F := Ideal) m)

/-! ## Where the blocks lie -/

theorem row_index : ∀ t : Fin grid0.N, cc0_transform_0 (grid0.coords t) = ![t.val, 0] := by decide +kernel
theorem out_index : ∀ t : Fin grid0.N, cc0_transform_4 (grid0.coords t) = ![t.val, 0] := by decide +kernel

/-- The table word a tile reads. -/
theorem word_eq (te : (main_v60 : Ref sig .tc).ty.Contents (Elt Ideal)) (t : Fin 288) :
    word te (k0_off1 (grid0.coords t)) (k0_off1_inb _) = te (ix1 t) := by
  unfold word
  refine congrArg te (funext fun a => Fin.ext ?_)
  fin_cases a
  show k0_off1 (grid0.coords t) 0 + 0 * 1 = t.val
  have := off1_val t; omega

theorem index_0 (t : Fin (cfgM m hO).N) : ((cfgM m hO).win 0).index t = ![t.val, 0] := row_index t
theorem index_4 (t : Fin (cfgM m hO).N) : ((cfgM m hO).win 4).index t = ![t.val, 0] := out_index t
theorem index_1 (t : Fin 288) : ((cfgM m hO).win 1).index t = ![0, BitVec.toNat (teT m (ix1 t)), 0, 0] :=
  congrArg (fun x : BitVec 32 => (![0, x.toNat, 0, 0] : Fin 4 → Nat)) (word_eq (teT m) t)
theorem index_2 (t : Fin 288) : ((cfgM m hO).win 2).index t = ![0, BitVec.toNat (teT m (ix1 t)), 0, 0] :=
  congrArg (fun x : BitVec 32 => (![0, x.toNat, 0, 0] : Fin 4 → Nat)) (word_eq (teT m) t)
theorem index_3 (t : Fin 288) : ((cfgM m hO).win 3).index t = ![0, BitVec.toNat (teT m (ix1 t)), 0, 0] :=
  congrArg (fun x : BitVec 32 => (![0, x.toNat, 0, 0] : Fin 4 → Nat)) (word_eq (teT m) t)

theorem rows_block (c : Dev nD) (t : Fin (cfgM m hO).N) (r : Fin 256) (l : Fin 1024) (a : Fin 73728) (ha : a.val = t.val * 256 + r.val) :
    iblk m hO c 0 t (ix2 r l) = V m c main_v78 (ix2 a l) := by
  blk_ext [iblk, index_0 m hO t]

theorem first_block (c : Dev nD) (t : Fin (cfgM m hO).N) (e : Fin 32) (he : BitVec.toNat (teT m (ix1 (t : Fin 288))) = e.val) (d : Fin 1024) (k : Fin 512) :
    iblk m hO c 1 t (ix4 0 0 d k) = V m c main_arg2 (ix4 0 e d k) := by
  blk_ext [iblk, index_1 m hO t]

theorem second_block (c : Dev nD) (t : Fin (cfgM m hO).N) (e : Fin 32) (he : BitVec.toNat (teT m (ix1 (t : Fin 288))) = e.val) (d : Fin 1024) (k : Fin 512) :
    iblk m hO c 2 t (ix4 0 0 d k) = V m c main_arg3 (ix4 0 e d k) := by
  blk_ext [iblk, index_2 m hO t]

theorem third_block (c : Dev nD) (t : Fin (cfgM m hO).N) (e : Fin 32) (he : BitVec.toNat (teT m (ix1 (t : Fin 288))) = e.val) (k : Fin 512) (l : Fin 1024) :
    iblk m hO c 3 t (ix4 0 0 k l) = V m c main_arg4 (ix4 0 e k l) := by
  blk_ext [iblk, index_3 m hO t]

/-! ## The result array -/

/-- The expert of a row's tile (a word that names none is taken modulo their number; the precondition excludes it). -/
def expert (te : S288.Idx → BitVec 32) (a : Fin 73728) : Fin 32 := ⟨(te (ix1 ⟨a.val / 256, by omega⟩)).toNat % 32, Nat.mod_lt _ (by decide)⟩

/-- A row of the result, from the dispatched rows, the tile table, the valid count and the weights of the first layer. -/
def rowVal (xs : S73728x1024.Idx → EReal) (te : S288.Idx → BitVec 32) (nv : S1.Idx → BitVec 32) (w1 w3 : S4x32x1024x512.Idx → EReal)
    (w2 : S4x32x512x1024.Idx → EReal) (a : Fin 73728) (l : Fin 1024) : EReal :=
  if (BitVec.ofNat 32 (a.val / 256)).toInt < (nv (ix1 0)).toInt then
    mlp (fun d => xs (ix2 a d)) (fun d k => w1 (ix4 0 (expert te a) d k)) (fun d k => w3 (ix4 0 (expert te a) d k)) (fun k => w2 (ix4 0 (expert te a) k l))
  else 0

def resultArr (c : Dev nD) : S73728x1024.Idx → EReal := fun i =>
  rowVal (V m c main_v78) (teT m) (nvT m) (V m c main_arg2) (V m c main_arg3) (V m c main_arg4) (i 0) (i 1)

theorem cond2_iff (i : grid0.Coords) (n : BitVec 32) : k0_cond2 i n = 1#1 ↔ (BitVec.ofNat 32 (i 0).val).toInt < n.toInt := by
  show IntOp.cmpi .ne ((IntOp.cmpi .slt (BitVec.ofNat 32 (i 0).val) n).setWidth 32) 0#32 = 1#1 ↔ _
  rw [WordCmp.cmpi_slt_eq]
  by_cases h : (BitVec.ofNat 32 (i 0).val).toInt < n.toInt
  · rw [decide_eq_true h]; exact ⟨fun _ => h, fun _ => by decide⟩
  · rw [decide_eq_false h]; exact ⟨fun e => absurd e (by decide), fun e => absurd e h⟩

theorem count_eq (nv : (main_v64 : Ref sig .tc).ty.Contents (Elt Ideal)) : count nv = nv (ix1 0) :=
  congrArg nv (funext fun a => Fin.ext (by fin_cases a; rfl))

/-- A tile's block, element by element. -/
theorem left_read (i : grid0.Coords) (n : BitVec 32) (r : Fin 256) (l : Fin 1024) :
    (left i n x (k0_pay1 w1) (k0_pay2 w3) (k0_pay3 w2) (ix2 r l) : EReal)
      = if (BitVec.ofNat 32 (i 0).val).toInt < n.toInt then
          mlp (fun d => x (ix2 r d)) (fun d k => w1 (ix4 0 0 d k)) (fun d k => w3 (ix4 0 0 d k)) (fun k => w2 (ix4 0 0 k l))
        else 0 := by
  unfold left
  by_cases h : (BitVec.ofNat 32 (i 0).val).toInt < n.toInt
  · rw [if_pos ((cond2_iff i n).2 h), if_pos h]; exact tile_mlp x w1 w3 w2 r l
  · rw [if_neg (fun e => h ((cond2_iff i n).1 e)), if_neg h]; exact tile_zero _

theorem out_block (hr : InRange (teT m)) (c : Dev nD) (t : Fin (cfgM m hO).N) (r : Fin 256) (l : Fin 1024) (a : Fin 73728) (ha : a.val = t.val * 256 + r.val) :
    out m hO c t (ix2 r l) = rowVal (V m c main_v78) (teT m) (nvT m) (V m c main_arg2) (V m c main_arg3) (V m c main_arg4) a l := by
  have ht : (⟨a.val / 256, by omega⟩ : Fin 288) = t := Fin.ext (by dsimp only; omega)
  have he : BitVec.toNat (teT m (ix1 (t : Fin 288))) = (expert (teT m) a).val := by
    unfold expert; dsimp only; rw [ht]; exact (Nat.mod_eq_of_lt (hr _)).symm
  refine (left_read _ _ _ _ (grid0.coords t) _ r l).trans ?_
  unfold rowVal
  rw [coords_val, count_eq, show a.val / 256 = t.val by omega]
  simp only [rows_block m hO c t r _ a ha, first_block m hO c t _ he, second_block m hO c t _ he, third_block m hO c t _ he]

theorem flushed : ∀ t : Fin grid0.N, Pipeline.Window.flushOf grid0 true cc0_transform_4 t = true := by decide +kernel

/-- Every element of the result lies in the block of its row's tile. -/
theorem covered (i : S73728x1024.Idx) : ∃ t : Fin (cfgM m hO).N, ((cfgM m hO).win 4).flush t = true ∧ i ∈ (((cfgM m hO).win 4).blk t).view.set := by
  have hi : (i 0).val < 73728 := (i 0).isLt
  have hj : (i 1).val < 1024 := (i 1).isLt
  obtain ⟨t, ht⟩ : ∃ t : Fin (cfgM m hO).N, t.val = (i 0).val / 256 := ⟨(⟨(i 0).val / 256, by omega⟩ : Fin 288), rfl⟩
  refine ⟨t, (Pipeline.Window.flush_eq_flushOf _ _).trans (flushed _), ?_⟩
  refine (((cfgM m hO).win 4).emb_mem_blk_iff t (i : S73728x1024.Idx) rfl).mpr fun a => ?_
  rw [index_4]
  fin_cases a
  · show t.val * 256 ≤ (i 0).val ∧ (i 0).val < t.val * 256 + 256
    omega
  · show 0 * 1024 ≤ (i 1).val ∧ (i 1).val < 0 * 1024 + 1024
    omega

theorem array_eq (hr : InRange (teT m)) (c : Dev nD) : (dats m hO 0 c).arrAt 4 (cfgM m hO).N = resultArr m c := by
  refine (dats m hO 0 c).arrAt_eq_of_emb 4 _ (fun t hf y => ?_) fun i => ?_
  · obtain ⟨r, l, rfl⟩ : ∃ (r : Fin 256) (l : Fin 1024), y = (ix2 r l : S256x1024.Idx) :=
      (fun z : S256x1024.Idx => (⟨z 0, z 1, by idx_vars z⟩ : ∃ (r : Fin 256) (l : Fin 1024), z = ix2 r l)) y
    have h0 : ((((cfgM m hO).win 4).blk t).view.emb (ix2 r l : S256x1024.Idx) (0 : Fin 2) : ℕ) = t.val * 256 + r.val := by
      blk_simp [index_4 m hO t]
    have h1 : ((((cfgM m hO).win 4).blk t).view.emb (ix2 r l : S256x1024.Idx) (1 : Fin 2) : ℕ) = l.val := by
      blk_simp [index_4 m hO t]
    refine (out_block m hO hr c t r l _ h0).trans ?_
    unfold resultArr
    exact congrArg _ (Fin.ext h1.symm)
  · exact covered m hO i

/-! ## The two results -/

section
variable (W : Vals) (t : Fin 32768) (b : Fin 73728) (l : Fin 1024)

/-- The look-up of a token's first slot, and of its second. -/
theorem look_first (h : (W (Proc.devRef .tc main_v48) : S32768x2.Idx → BitVec 32) (ix2 t 0) = BitVec.ofNat 32 b.val) :
    (StableHlo.after (List.flatten later) W (Proc.devRef .tc main_v82) : S32768x1024.Idx → EReal) (ix2 t l)
      = (W (Proc.devRef .tc main_v79) : S73728x1024.Idx → EReal) (ix2 b l) := by
  have hw := wrap_id (n := b.val) (by omega) _ 73728#32 h
  after_reads_at
  rw [bounds_id (n := b.val) (b := 73727) (by norm_num) (by omega) _ hw]
  rw [ixw2, ixw2]
  refine Routing.gather_row (nb := 73728) (B := 1024) (n := 32768) _ rfl rfl rfl rfl rfl _ _ t l b ?_ (by norm_num)
  rw [← ixw2]
  refine Eq.trans ?_ hw
  pointwise

theorem look_second (h : (W (Proc.devRef .tc main_v48) : S32768x2.Idx → BitVec 32) (ix2 t 1) = BitVec.ofNat 32 b.val) :
    (StableHlo.after (List.flatten later) W (Proc.devRef .tc main_v85) : S32768x1024.Idx → EReal) (ix2 t l)
      = (W (Proc.devRef .tc main_v79) : S73728x1024.Idx → EReal) (ix2 b l) := by
  have hw := wrap_id (n := b.val) (by omega) _ 73728#32 h
  after_reads_at
  rw [bounds_id (n := b.val) (b := 73727) (by norm_num) (by omega) _ hw]
  rw [ixw2, ixw2]
  refine Routing.gather_row (nb := 73728) (B := 1024) (n := 32768) _ rfl rfl rfl rfl rfl _ _ t l b ?_ (by norm_num)
  rw [← ixw2]
  refine Eq.trans ?_ hw
  pointwise
end

variable (μ : (ℓ : Loc nD τ sig) → Buf (Elt Ideal) ℓ)

/-- The entry, stage by stage. -/
theorem entry_stages (c : Dev nD) : entry μ c = s9 (s8 (s7 (s6 (s5 (s4 (s3 (s2 (s1 fun b => μ (c, b))))))))) := by
  unfold entry s1 s2 s3 s4 s5 s6 s7 s8 s9
  simp only [← after_two, List.flatten_cons, List.flatten_nil, List.append_nil, List.append_assoc]

/-- The expert a token's choice names. -/
abbrev word1 (c : Dev nD) (t : Fin 32768) (k : Fin 2) : BitVec 32 := (μ (c, Proc.devRef .tc main_arg1) : S32768x2.Idx → BitVec 32) (ix2 t k)

variable (c : Dev nD) (Y : Fin 32768 → Fin 2 → Fin 32) (hY : ∀ t k, word1 μ c t k = BitVec.ofNat 32 (Y t k).val)

/-- A choice's MLP of its token. -/
def choiceVal (x : S32768x1024.Idx → EReal) (w1 w3 : S4x32x1024x512.Idx → EReal) (w2 : S4x32x512x1024.Idx → EReal) (y : Fin 32) (t : Fin 32768) (l : Fin 1024) : EReal :=
  mlp (fun d => x (ix2 t d)) (fun d k => w1 (ix4 0 y d k)) (fun d k => w3 (ix4 0 y d k)) (fun k => w2 (ix4 0 y k l))

abbrev choiceArr (k : Fin 2) : S32768x1024.Idx → EReal := fun i =>
  choiceVal (μ (c, Proc.devRef .tc main_arg0)) (μ (c, Proc.devRef .tc main_arg2)) (μ (c, Proc.devRef .tc main_arg3)) (μ (c, Proc.devRef .tc main_arg4)) (Y (i 0) k) (i 0) (i 1)

include hY

/-- The row of a choice's slot. -/
theorem slot_row (t : Fin 32768) (k : Fin 2) (l : Fin 1024) :
    result (F := Ideal) μ c (ix2 ⟨slotOf (ch fun b => μ (c, b)) (Y t k).val t.val, slot_lt' (fun b => μ (c, b)) Y hY t k⟩ l) = choiceArr μ c Y k (ix2 t l) := by
  have hn := plan_v64 (fun b => μ (c, b)) Y hY t k
  have hs := slot_lt' (fun b => μ (c, b)) Y hY t k
  obtain rfl : c = 0 := Subsingleton.elim _ _
  refine (congrFun (array_eq (entry μ) (ok μ) (inRange μ) 0) _).trans ?_
  unfold resultArr rowVal
  have he : expert (teT (entry μ)) ⟨slotOf (ch fun b => μ ((0 : Dev nD), b)) (Y t k).val t.val, hs⟩ = Y t k := by
    refine Fin.ext ?_
    have h := plan_v60 (fun b => μ ((0 : Dev nD), b)) Y hY t k ⟨slotOf (ch fun b => μ ((0 : Dev nD), b)) (Y t k).val t.val / 256, by omega⟩ rfl
    rw [← entry_stages] at h
    unfold expert
    refine (congrArg (fun w : BitVec 32 => w.toNat % 32) h).trans ?_
    have := (Y t k).isLt
    rw [BitVec.toNat_ofNat]; omega
  rw [← entry_stages] at hn
  have hc : (BitVec.ofNat 32 (slotOf (ch fun b => μ ((0 : Dev nD), b)) (Y t k).val t.val / 256)).toInt < ((nvT (entry μ) : S1.Idx → BitVec 32) (ix1 0)).toInt := by
    have h2 : (((nvT (entry μ) : S1.Idx → BitVec 32) (ix1 0)).toNat) ≤ 288 := hn.2
    have h1 : slotOf (ch fun b => μ ((0 : Dev nD), b)) (Y t k).val t.val / 256 < (((nvT (entry μ) : S1.Idx → BitVec 32) (ix1 0)).toNat) := hn.1
    have h3 : (BitVec.ofNat 32 (slotOf (ch fun b => μ ((0 : Dev nD), b)) (Y t k).val t.val / 256)).toNat = slotOf (ch fun b => μ ((0 : Dev nD), b)) (Y t k).val t.val / 256 := by
      rw [BitVec.toNat_ofNat]; omega
    rw [BitVec.toInt_eq_toNat_of_lt (by omega), BitVec.toInt_eq_toNat_of_lt (by omega), h3]
    exact_mod_cast h1
  refine (if_pos hc).trans ?_
  have e2 : V (entry μ) 0 main_arg2 = μ ((0 : Dev nD), Proc.devRef .tc main_arg2) := keep0_a2 _
  have e3 : V (entry μ) 0 main_arg3 = μ ((0 : Dev nD), Proc.devRef .tc main_arg3) := keep0_a3 _
  have e4 : V (entry μ) 0 main_arg4 = μ ((0 : Dev nD), Proc.devRef .tc main_arg4) := keep0_a4 _
  have ex : ∀ d : Fin 1024, (V (entry μ) 0 main_v78 : S73728x1024.Idx → EReal) (ix2 ⟨slotOf (ch fun b => μ ((0 : Dev nD), b)) (Y t k).val t.val, hs⟩ d)
      = (μ ((0 : Dev nD), Proc.devRef .tc main_arg0) : S32768x1024.Idx → EReal) (ix2 t d) := fun d => by
    have h := plan_v78 (fun b => μ ((0 : Dev nD), b)) Y hY t k d
    rw [← entry_stages] at h
    exact h
  rw [e2, e3, e4]
  unfold choiceArr choiceVal
  have hx : (fun d : Fin 1024 => (V (entry μ) 0 main_v78 : S73728x1024.Idx → EReal) (ix2 ⟨slotOf (ch fun b => μ ((0 : Dev nD), b)) (Y t k).val t.val, hs⟩ d))
      = fun d => (μ ((0 : Dev nD), Proc.devRef .tc main_arg0) : S32768x1024.Idx → EReal) (ix2 t d) := funext ex
  change mlp (fun d : Fin 1024 => (V (entry μ) 0 main_v78 : S73728x1024.Idx → EReal) (ix2 ⟨slotOf (ch fun b => μ ((0 : Dev nD), b)) (Y t k).val t.val, hs⟩ d)) _ _ _ = _
  rw [hx]
  rw [show expert (teT (entry μ)) ((ix2 ⟨slotOf (ch fun b => μ ((0 : Dev nD), b)) (Y t k).val t.val, hs⟩ l : S73728x1024.Idx) 0) = Y t k from he]
  rfl

theorem first_eq : (ends μ (ok μ) c (Proc.devRef .tc main_v82) : S32768x1024.Idx → EReal) = choiceArr μ c Y 0 := by
  funext i
  obtain ⟨t, l, rfl⟩ : ∃ (t : Fin 32768) (l : Fin 1024), i = ix2 t l := ⟨i 0, i 1, by idx_vars i⟩
  refine (look_first (leaves μ (ok μ) c) t ⟨_, slot_lt' (fun b => μ (c, b)) Y hY t 0⟩ l ?_).trans ?_
  · rw [leaves_v48, entry_stages]; exact plan_v48 (fun b => μ (c, b)) Y hY t 0
  · rw [leaves_v79]; exact slot_row μ c Y hY t 0 l

theorem second_eq : (ends μ (ok μ) c (Proc.devRef .tc main_v85) : S32768x1024.Idx → EReal) = choiceArr μ c Y 1 := by
  funext i
  obtain ⟨t, l, rfl⟩ : ∃ (t : Fin 32768) (l : Fin 1024), i = ix2 t l := ⟨i 0, i 1, by idx_vars i⟩
  refine (look_second (leaves μ (ok μ) c) t ⟨_, slot_lt' (fun b => μ (c, b)) Y hY t 1⟩ l ?_).trans ?_
  · rw [leaves_v48, entry_stages]; exact plan_v48 (fun b => μ (c, b)) Y hY t 1
  · rw [leaves_v79]; exact slot_row μ c Y hY t 1 l

end Cert.Moe

end
-- ==== Proof.Moe.Ideal.lean ====
/-
  The idealized kernel is the kernel's own text, so its run is the kernel's at the ideal values.
-/
module

public import proofs.«01_k».proof.Proof.Moe.Args
public import proofs.«01_k».proof.Proof.Gen.Kernel2Ideal.Launch
public import Idealize.ShloMosaic.PureOps.Ideal

@[expose] public section

set_option maxRecDepth 16384

noncomputable section

namespace Cert.Moe

open Idealize.ShloMosaic Idealize.ShloMosaic.TcCoe Idealize.SL Idealize.SL.Sem

set_option maxHeartbeats 2000000 in
theorem bodies_eq : Cert.Kernel2Ideal.defs₀ (F := Ideal) = Cert.Kernel2.defs₀ (F := Ideal) := by
  unfold Cert.Kernel2Ideal.defs₀ Cert.Kernel2.defs₀
  congr 1
  funext l
  cases l
  rename_i l hl
  cases l with
  | zero => rfl
  | succ n => omega

theorem defs_eq : Cert.Kernel2Ideal.defs (F := Ideal) = Cert.Kernel2.defs (F := Ideal) := by
  unfold Cert.Kernel2Ideal.defs Cert.Kernel2.defs
  rw [bodies_eq]
  rfl

/-! The host's operations of the two texts, list by list. -/

theorem hostOps0_eq : Cert.Kernel2Ideal.Gen.hostOps0 (F := Ideal) = Cert.Kernel2.Gen.hostOps0 := rfl
theorem hostOps0_1_eq : Cert.Kernel2Ideal.Gen.hostOps0_1 (F := Ideal) = Cert.Kernel2.Gen.hostOps0_1 := rfl
theorem hostOps0_2_eq : Cert.Kernel2Ideal.Gen.hostOps0_2 (F := Ideal) = Cert.Kernel2.Gen.hostOps0_2 := rfl
theorem hostOps0_3_eq : Cert.Kernel2Ideal.Gen.hostOps0_3 (F := Ideal) = Cert.Kernel2.Gen.hostOps0_3 := rfl
theorem hostOps0_4_eq : Cert.Kernel2Ideal.Gen.hostOps0_4 (F := Ideal) = Cert.Kernel2.Gen.hostOps0_4 := rfl
theorem hostOps0_5_eq : Cert.Kernel2Ideal.Gen.hostOps0_5 (F := Ideal) = Cert.Kernel2.Gen.hostOps0_5 := rfl
theorem hostOps0_6_eq : Cert.Kernel2Ideal.Gen.hostOps0_6 (F := Ideal) = Cert.Kernel2.Gen.hostOps0_6 := rfl
theorem hostOps0_7_eq : Cert.Kernel2Ideal.Gen.hostOps0_7 (F := Ideal) = Cert.Kernel2.Gen.hostOps0_7 := rfl
theorem hostOps0_8_eq : Cert.Kernel2Ideal.Gen.hostOps0_8 (F := Ideal) = Cert.Kernel2.Gen.hostOps0_8 := rfl
theorem hostOps0_9_eq : Cert.Kernel2Ideal.Gen.hostOps0_9 (F := Ideal) = Cert.Kernel2.Gen.hostOps0_9 := rfl
theorem hostOps0_10_eq : Cert.Kernel2Ideal.Gen.hostOps0_10 (F := Ideal) = Cert.Kernel2.Gen.hostOps0_10 := rfl
theorem hostOps0_11_eq : Cert.Kernel2Ideal.Gen.hostOps0_11 (F := Ideal) = Cert.Kernel2.Gen.hostOps0_11 := rfl
theorem hostOps0_12_eq : Cert.Kernel2Ideal.Gen.hostOps0_12 (F := Ideal) = Cert.Kernel2.Gen.hostOps0_12 := rfl
theorem hostOps0_13_eq : Cert.Kernel2Ideal.Gen.hostOps0_13 (F := Ideal) = Cert.Kernel2.Gen.hostOps0_13 := rfl
theorem hostOps0_14_eq : Cert.Kernel2Ideal.Gen.hostOps0_14 (F := Ideal) = Cert.Kernel2.Gen.hostOps0_14 := rfl
theorem hostOps0_15_eq : Cert.Kernel2Ideal.Gen.hostOps0_15 (F := Ideal) = Cert.Kernel2.Gen.hostOps0_15 := rfl
theorem hostOps1_eq : Cert.Kernel2Ideal.Gen.hostOps1 (F := Ideal) = Cert.Kernel2.Gen.hostOps1 := rfl
theorem hostOps1_1_eq : Cert.Kernel2Ideal.Gen.hostOps1_1 (F := Ideal) = Cert.Kernel2.Gen.hostOps1_1 := rfl
theorem hostOps1_2_eq : Cert.Kernel2Ideal.Gen.hostOps1_2 (F := Ideal) = Cert.Kernel2.Gen.hostOps1_2 := rfl
theorem hostOps1_3_eq : Cert.Kernel2Ideal.Gen.hostOps1_3 (F := Ideal) = Cert.Kernel2.Gen.hostOps1_3 := rfl

set_option maxHeartbeats 2000000 in
theorem main_eq : Cert.Kernel2Ideal.main (F := Ideal) = Cert.Kernel2.main (F := Ideal) := by
  funext c
  refine (Cert.Kernel2Ideal.Gen.main_chain c).trans (Eq.trans ?_ (Cert.Kernel2.Gen.main_chain c).symm)
  rw [hostOps0_eq, hostOps0_1_eq, hostOps0_2_eq, hostOps0_3_eq, hostOps0_4_eq, hostOps0_5_eq, hostOps0_6_eq, hostOps0_7_eq, hostOps0_8_eq, hostOps0_9_eq, hostOps0_10_eq, hostOps0_11_eq, hostOps0_12_eq, hostOps0_13_eq, hostOps0_14_eq, hostOps0_15_eq, hostOps1_eq, hostOps1_1_eq, hostOps1_2_eq, hostOps1_3_eq]
  rfl

set_option maxHeartbeats 1000000 in
/-- The idealized kernel's run: its results and its arguments. -/
theorem run_ideal (m : (ℓ : Loc Cert.Kernel2Ideal.nD Cert.Kernel2Ideal.τ Cert.Kernel2Ideal.sig) → Buf (Elt Ideal) ℓ) (ρ : Dev Cert.Kernel2Ideal.nD → PrngReg) :
    θ_run (Cert.Kernel2Ideal.defs (F := Ideal)) (onTc (τ := Cert.Kernel2Ideal.τ) (Cert.Kernel2Ideal.main (F := Ideal))) ⟨m, fun _ => 0, ρ⟩
      (fun r => (∀ c : Dev Cert.Kernel2Ideal.nD,
        r.2.mem ((c.tc : Thread Cert.Kernel2Ideal.nD Cert.Kernel2Ideal.τ).loc Cert.Kernel2Ideal.main_v82) = ends (F := Ideal) m (ok m) c (Proc.devRef .tc Cert.Kernel2.main_v82)
        ∧ r.2.mem ((c.tc : Thread Cert.Kernel2Ideal.nD Cert.Kernel2Ideal.τ).loc Cert.Kernel2Ideal.main_v85) = ends (F := Ideal) m (ok m) c (Proc.devRef .tc Cert.Kernel2.main_v85)
        ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
        ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
        ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
        ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
        ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
        ∧ r.2.sem = fun _ => 0) := by
  rw [defs_eq, main_eq]
  exact run_value (F := Ideal) m ρ

end Cert.Moe

end
-- ==== Proof.Moe.Reference.lean ====
/-
  The reference of the expert MLP, element by element: every expert's MLP of every token, weighted by one where the token's choice
  names that expert and by zero elsewhere, is the MLP of the chosen expert. With it the claims.
-/
module

public import proofs.«01_k».proof.Defs
public import proofs.«01_k».proof.Proof.Gen.Reference2Ideal.Run
public import proofs.«01_k».proof.Proof.Gen.Reference2Ideal.Read
public import proofs.«01_k».proof.Proof.Gen.Pre_experts_in_range
public import proofs.«01_k».proof.Proof.Moe.Value
public import proofs.«01_k».proof.Proof.Moe.Ideal
public import Idealize.ShloMosaic.Lib.Quiescent
public import Idealize.ShloMosaic.Lib.StableHlo.Predicate
public import Idealize.ShloMosaic.Lib.Routing.Words

@[expose] public section

set_option maxRecDepth 16384

noncomputable section

namespace Cert.Moe

open Cert.Reference2Ideal Cert.Reference2Ideal.Gen Cert.Reference2Ideal.Read Idealize.ShloMosaic Idealize.ShloMosaic.TcCoe Idealize.SL.Sem

variable (x : S32768x1024.Idx → EReal) (e : S32768x2.Idx → BitVec 32) (w1 w3 : S4x32x1024x512.Idx → EReal) (w2 : S4x32x512x1024.Idx → EReal)

theorem unit_read (y : Fin 32) (t : Fin 32768) (k : Fin 512) : (val_main_v7 (F := Ideal) x w1 (ix3 y t k) : EReal)
    = hidden (fun d => x (ix2 t d)) (fun d => w1 (ix4 0 y d k)) := by
  pointwise [val_main_v7, val_main_v6, val_main_v1, val_main_v0]
  exact Finset.sum_congr rfl fun d _ => mul_comm _ _

theorem gate_read (y : Fin 32) (t : Fin 32768) (k : Fin 512) : (val_main_v11 (F := Ideal) x w1 w3 (ix3 y t k) : EReal)
    = gate (hidden (fun d => x (ix2 t d)) (fun d => w1 (ix4 0 y d k))) (hidden (fun d => x (ix2 t d)) (fun d => w3 (ix4 0 y d k))) := by
  have h1 := unit_read x w1 y t k
  have h3 : (val_main_v10 (F := Ideal) x w3 (ix3 y t k) : EReal) = _ := unit_read x w3 y t k
  rw [← h1, ← h3]
  unfold val_main_v11
  generalize val_main_v10 (F := Ideal) x w3 = u3
  unfold val_main_v8 val_main_call0_v5 val_main_call0_v3 val_main_call0_v1 val_main_call0_v0
  generalize val_main_v7 (F := Ideal) x w1 = u1
  pointwise [val_main_call0_v2, val_main_call0_v4, val_main_call0_cst, val_main_call0_cst_0]
  unfold gate
  rw [zero_sub]

/-- Every expert's MLP of every token. -/
theorem mlp_read (y : Fin 32) (t : Fin 32768) (l : Fin 1024) : (val_main_v12 (F := Ideal) x w1 w3 w2 (ix3 y t l) : EReal)
    = choiceVal x w1 w3 w2 y t l := by
  have h := gate_read x w1 w3 y t
  unfold val_main_v12
  generalize val_main_v11 (F := Ideal) x w1 w3 = u at h ⊢
  pointwise [val_main_v5, val_main_v4]
  unfold choiceVal mlp
  exact Finset.sum_congr rfl fun k _ => congrArg (· * _) (h k)

theorem first_mask (t : Fin 32768) (y : Fin 32) : val_main_v20 (F := Ideal) e (ix2 t y) = IntOp.cmpi .eq (e (ix2 t 0)) (BitVec.ofNat 32 y.val) := by
  pointwise [val_main_v20, val_main_v19, val_main_v18, val_main_v17, val_main_v16, val_main_v15, val_main_v14, val_main_v13]

theorem second_mask (t : Fin 32768) (y : Fin 32) : val_main_v35 (F := Ideal) e (ix2 t y) = IntOp.cmpi .eq (e (ix2 t 1)) (BitVec.ofNat 32 y.val) := by
  pointwise [val_main_v35, val_main_v34, val_main_v33, val_main_v32, val_main_v31, val_main_v30, val_main_v29, val_main_v28]

theorem sum_first (t : Fin 32768) (l : Fin 1024) : (val_main_v27 (F := Ideal) x e w1 w3 w2 (ix2 t l) : EReal)
    = ∑ y : Fin 32, FloatOps.uitofp (F := Ideal) .f32 (val_main_v20 (F := Ideal) e (ix2 t y)) * val_main_v12 (F := Ideal) x w1 w3 w2 (ix3 y t l) := by
  unfold val_main_v27 val_main_v26 val_main_v25 val_main_v24 val_main_v23 val_main_v22 val_main_v21
  generalize val_main_v20 (F := Ideal) e = b
  generalize val_main_v12 (F := Ideal) x w1 w3 w2 = o
  pointwise [val_main_cst]

theorem sum_second (t : Fin 32768) (l : Fin 1024) : (val_main_v42 (F := Ideal) x e w1 w3 w2 (ix2 t l) : EReal)
    = ∑ y : Fin 32, FloatOps.uitofp (F := Ideal) .f32 (val_main_v35 (F := Ideal) e (ix2 t y)) * val_main_v12 (F := Ideal) x w1 w3 w2 (ix3 y t l) := by
  unfold val_main_v42 val_main_v41 val_main_v40 val_main_v39 val_main_v38 val_main_v37 val_main_v36
  generalize val_main_v35 (F := Ideal) e = b
  generalize val_main_v12 (F := Ideal) x w1 w3 w2 = o
  pointwise [val_main_cst_0]

/-- A sum of which only one term has its weight. -/
theorem picked (w : BitVec 32) (y : Fin 32) (h : w = BitVec.ofNat 32 y.val) (f : Fin 32 → EReal) :
    (∑ z : Fin 32, (FloatOps.uitofp (F := Ideal) .f32 (IntOp.cmpi .eq w (BitVec.ofNat 32 z.val)) : EReal) * f z) = f y := by
  have hz : ∀ z : Fin 32, (FloatOps.uitofp (F := Ideal) .f32 (IntOp.cmpi .eq w (BitVec.ofNat 32 z.val)) : EReal) = if z = y then 1 else 0 := fun z => by
    have hb : (w = BitVec.ofNat 32 z.val) ↔ z = y := by
      rw [h]
      constructor
      · intro q
        have q' := congrArg BitVec.toNat q
        have := y.isLt; have := z.isLt
        rw [BitVec.toNat_ofNat, BitVec.toNat_ofNat] at q'
        exact Fin.ext (by omega)
      · rintro rfl; rfl
    rw [WordCmp.cmpi_eq_eq]
    by_cases q : z = y
    · rw [if_pos q, decide_eq_true (hb.2 q)]
      show (((BitVec.ofBool true).toNat : ℝ) : EReal) = 1
      simp
    · rw [if_neg q, decide_eq_false (fun r => q (hb.1 r))]
      show (((BitVec.ofBool false).toNat : ℝ) : EReal) = 0
      simp
  rw [Finset.sum_eq_single y]
  · rw [hz, if_pos rfl, one_mul]
  · intro z _ hne
    rw [hz, if_neg hne, zero_mul]
  · exact fun h => absurd (Finset.mem_univ _) h

section
variable (Y : Fin 32768 → Fin 2 → Fin 32) (hY : ∀ t k, e (ix2 t k) = BitVec.ofNat 32 (Y t k).val)
include hY

theorem ref_first : (val_main_v27 (F := Ideal) x e w1 w3 w2 : S32768x1024.Idx → EReal) = fun i => choiceVal x w1 w3 w2 (Y (i 0) 0) (i 0) (i 1) := by
  funext i
  obtain ⟨t, l, rfl⟩ : ∃ (t : Fin 32768) (l : Fin 1024), i = ix2 t l := ⟨i 0, i 1, by idx_vars i⟩
  rw [sum_first]
  simp only [first_mask, mlp_read]
  exact picked _ _ (hY t 0) fun y => choiceVal x w1 w3 w2 y t l

theorem ref_second : (val_main_v42 (F := Ideal) x e w1 w3 w2 : S32768x1024.Idx → EReal) = fun i => choiceVal x w1 w3 w2 (Y (i 0) 1) (i 0) (i 1) := by
  funext i
  obtain ⟨t, l, rfl⟩ : ∃ (t : Fin 32768) (l : Fin 1024), i = ix2 t l := ⟨i 0, i 1, by idx_vars i⟩
  rw [sum_second]
  simp only [second_mask, mlp_read]
  exact picked _ _ (hY t 1) fun y => choiceVal x w1 w3 w2 y t l
end

/-! ## The claims -/

/-- A signed word that is at least zero and below 32 has a number below 32. -/
theorem word_lt {v : BitVec 32} (h : IntOp.andi (IntOp.cmpi .sge v 0#32) (IntOp.cmpi .slt v 32#32) = 1#1) : v.toNat < 32 := by
  rw [show (32#32 : BitVec 32) = BitVec.ofNat 32 32 from rfl, WordCmp.andi_sge_zero_slt_ofNat (by decide)] at h
  by_contra h0
  rw [decide_eq_false h0] at h
  exact absurd h (by decide)

/-- The precondition: every choice names an expert. -/
theorem choices (h : Cert.Pre_experts_in_range.fn (F := Ideal) x e w1 w3 w2 = fun _ => 1#1) : ∃ Y : Fin 32768 → Fin 2 → Fin 32, ∀ t k, e (ix2 t k) = BitVec.ofNat 32 (Y t k).val := by
  have hlt : ∀ t k, (e (ix2 t k)).toNat < 32 := fun t k => by
    have := congrFun h (ix2 t k)
    pointwise [Cert.Pre_experts_in_range.fn] at this
    exact word_lt this
  refine ⟨fun t k => ⟨(e (ix2 t k)).toNat, hlt t k⟩, fun t k => ?_⟩
  simp

theorem frame_kernel : Cert.quiescent_Kernel2 := fun m ρ _ =>
  (θ_run _ _ _).mono (fun _ h => ⟨fun c => (h.1 c).2.2, h.2⟩) (run_value (F := Bits) m ρ)

theorem frame_ideal : Cert.quiescent_Kernel2Ideal := fun m ρ _ =>
  (θ_run _ _ _).mono (fun _ h => ⟨fun c => (h.1 c).2.2, h.2⟩) (run_ideal m ρ)

/-- The reference ends with its arguments unchanged; it declares no semaphore. -/
theorem frame_reference : Cert.quiescent_Reference2Ideal := fun m ρ _ =>
  (θ_run Cert.Reference2Ideal.defs _ _).mono (fun r h => ⟨fun c => (h c).2.2, Idealize.ShloMosaic.sem_eq_zero_of_no_sems (by decide) r.2⟩)
    (Cert.Reference2Ideal.Value.run (F := Ideal) m ρ)

/-- The expert kernel and the reference end with equal results. -/
theorem algebraic : Cert.algebraic_Kernel2Ideal_Reference2Ideal_pre_experts_in_range := by
  intro m ρ m' ρ' hpre hag
  obtain ⟨Y, hY⟩ := choices _ _ _ _ _ (hpre 0)
  have h0 : ∀ c : Dev Cert.Kernel2.nD, ∀ t k, word1 m c t k = BitVec.ofNat 32 (Y t k).val := fun c t k => by
    obtain rfl : c = 0 := Subsingleton.elim _ _
    exact hY t k
  refine ⟨fun c => choiceArr m c Y 0, fun c => choiceArr m c Y 1,
    (θ_run _ _ _).mono (fun _ h c => ⟨(h.1 c).1.trans (first_eq m c Y (h0 c)), (h.1 c).2.1.trans (second_eq m c Y (h0 c)), (h.1 c).2.2⟩) (run_ideal m ρ),
    (θ_run _ _ _).mono (fun _ h c => ⟨(h c).1.trans ?_, (h c).2.1.trans ?_, (h c).2.2⟩) (Cert.Reference2Ideal.Value.run m' ρ')⟩
  · refine (Cert.Reference2Ideal.Read.val_main_v27_eq _ _ _ _ _).trans ?_
    rw [(hag c).1, (hag c).2.1, (hag c).2.2.1, (hag c).2.2.2.1, (hag c).2.2.2.2]
    exact ref_first _ _ _ _ _ Y (h0 c)
  · refine (Cert.Reference2Ideal.Read.val_main_v42_eq _ _ _ _ _).trans ?_
    rw [(hag c).1, (hag c).2.1, (hag c).2.2.1, (hag c).2.2.2.1, (hag c).2.2.2.2]
    exact ref_second _ _ _ _ _ Y (h0 c)

end Cert.Moe

end
-- ==== Proof.Attn.Softmax.lean ====
/- A row of attention scores over the extended reals: the base-two softmax of the scaled scores, normalised after the
   weighted sum, is the softmax of the plain scores applied to the values. The scores are real; the values are any
   extended reals. -/
module

public import Idealize.ShloMosaic.Lib.Pointwise

@[expose] public section

noncomputable section

namespace Cert.Attn

open Idealize.ShloMosaic

/-- The word of minus infinity read as an extended real. -/
theorem word_neg_inf : Ideal.ofBits .f32 0xFF800000#32 = ⊥ := by simp [Ideal.ofBits, Ideal.ieee]

/-- The word of plus infinity read as an extended real. -/
theorem word_inf : Ideal.ofBits .f32 0x7F800000#32 = ⊤ := by simp [Ideal.ofBits, Ideal.ieee]

/-- The word of one eighth. -/
theorem word_eighth : Ideal.ofBits .f32 0x3E000000#32 = ((1 / 8 : ℝ) : EReal) := by
  simp [Ideal.ofBits, Ideal.ieee, -EReal.coe_mul]; norm_num

variable {n : ℕ}

/-- A finite sum of reals, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor goes through a finite sum of extended reals. -/
theorem sum_mul_real {ι : Type} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih,
      EReal.right_distrib_of_nonneg_of_ne_top (by exact_mod_cast hr) (EReal.coe_ne_top r)]

/-- The greatest of finitely many reals, as a fold from minus infinity, scaled by a positive factor. -/
theorem fold_max_real (hn : 0 < n) (t : Fin n → ℝ) :
    ∃ M : ℝ, (∀ s, t s ≤ M) ∧ ∀ a : ℝ, 0 < a →
      Finset.univ.fold max (⊥ : EReal) (fun s => ((t s * a : ℝ) : EReal)) = ((M * a : ℝ) : EReal) := by
  haveI : Nonempty (Fin n) := ⟨⟨0, hn⟩⟩
  obtain ⟨s₀, -, h₀⟩ := Finset.exists_max_image (Finset.univ : Finset (Fin n)) t ⟨⟨0, hn⟩, Finset.mem_univ _⟩
  refine ⟨t s₀, fun s => h₀ s (Finset.mem_univ s), fun a ha => le_antisymm ?_ ?_⟩
  · refine (Finset.fold_max_le _).2 ⟨bot_le, fun s _ => ?_⟩
    exact_mod_cast mul_le_mul_of_nonneg_right (h₀ s (Finset.mem_univ s)) ha.le
  · exact (Finset.le_fold_max _).2 (.inr ⟨s₀, Finset.mem_univ _, le_rfl⟩)

/-- `log 256` is eight times `log 2`. -/
theorem log_256 : Real.log 256 = 8 * Real.log 2 := by
  rw [show (256 : ℝ) = 2 ^ 8 by norm_num, Real.log_pow]; norm_num

/-- Two to the power of a score over `log 256` is `e` to an eighth of the score. -/
theorem two_pow_scaled (x : ℝ) : Real.rpow 2 (x * (Real.log 256)⁻¹) = Real.exp (x * (1 / 8)) := by
  have h2 : Real.log 2 ≠ 0 := (Real.log_pos (by norm_num)).ne'
  show (2 : ℝ) ^ (x * (Real.log 256)⁻¹) = _
  rw [Real.rpow_def_of_pos (by norm_num), log_256]
  congr 1
  field_simp

/-- A ROW OF ATTENTION: scores `t`, values `v`. -/
theorem row_eq (hn : 0 < n) (t : Fin n → ℝ) (v : Fin n → EReal) :
    Ideal.div
      (∑ s, Ideal.exp2 (((t s * (Real.log 256)⁻¹ : ℝ) : EReal) -
        Finset.univ.fold max ⊥ (fun s => ((t s * (Real.log 256)⁻¹ : ℝ) : EReal))) * v s)
      (∑ s, Ideal.exp2 (((t s * (Real.log 256)⁻¹ : ℝ) : EReal) -
        Finset.univ.fold max ⊥ (fun s => ((t s * (Real.log 256)⁻¹ : ℝ) : EReal))) * 1)
    = ∑ s, v s * Ideal.div
        (Ideal.exp (((t s * (1 / 8) : ℝ) : EReal) - max ⊥ (Finset.univ.fold max ⊥ fun s => ((t s * (1 / 8) : ℝ) : EReal))))
        (∑ s, Ideal.exp (((t s * (1 / 8) : ℝ) : EReal) -
          max ⊥ (Finset.univ.fold max ⊥ fun s => ((t s * (1 / 8) : ℝ) : EReal)))) := by
  haveI : Nonempty (Fin n) := ⟨⟨0, hn⟩⟩
  obtain ⟨M, -, hM⟩ := fold_max_real hn t
  have hc : 0 < (Real.log 256)⁻¹ := inv_pos.2 (Real.log_pos (by norm_num))
  have hL : 0 < ∑ s, Real.exp ((t s - M) * (1 / 8)) :=
    Finset.sum_pos (fun s _ => Real.exp_pos _) Finset.univ_nonempty
  have e1 : ∀ s, Ideal.exp2 (((t s * (Real.log 256)⁻¹ : ℝ) : EReal) - ((M * (Real.log 256)⁻¹ : ℝ) : EReal))
      = ((Real.exp ((t s - M) * (1 / 8)) : ℝ) : EReal) := fun s => by
    rw [← EReal.coe_sub, Ideal.exp2_coe, ← sub_mul, two_pow_scaled]
  have e2 : ∀ s, Ideal.exp (((t s * (1 / 8) : ℝ) : EReal) - ((M * (1 / 8) : ℝ) : EReal))
      = ((Real.exp ((t s - M) * (1 / 8)) : ℝ) : EReal) := fun s => by
    rw [← EReal.coe_sub, Ideal.exp_coe, ← sub_mul]
  rw [hM _ hc, hM _ (by norm_num : (0 : ℝ) < 1 / 8), max_eq_right bot_le]
  simp only [e1, e2, mul_one]
  rw [← coe_sum, Ideal.div_coe hL.ne', sum_mul_real _ _ (by positivity)]
  refine Finset.sum_congr rfl fun s _ => ?_
  rw [Ideal.div_coe hL.ne', mul_comm (v s), mul_assoc, mul_assoc, mul_comm (v s)]

/-- An extended real whose magnitude is below plus infinity is a real. -/
theorem real_of_abs_lt {x : EReal} (h : max x (-x) < ⊤) : ∃ r : ℝ, x = (r : EReal) := by
  induction x using EReal.rec with
  | bot => simp at h
  | top => simp at h
  | coe r => exact ⟨r, rfl⟩

end Cert.Attn

end
-- ==== Proof.Merge.Block.lean ====
/- What one grid point of the merge kernel leaves in its output blocks, element by element: the normalised branch, the gated
   sum of the three branch projections, the output projection beside the scaled row, and the layer norm of the row. -/
module

public import proofs.«01_k».proof.Proof.Gen.Kernel3Ideal.Value
public import Idealize.ShloMosaic.Lib.Pointwise

@[expose] public section

set_option maxRecDepth 16384

noncomputable section

namespace Cert.Merge

open Cert.Kernel3Ideal Cert.Kernel3Ideal.Gen Idealize.ShloMosaic

/-- One over one plus the exponential of the negative. -/
def logi (x : EReal) : EReal :=
  Ideal.div (Ideal.ofBits .f32 0x3F800000#32) (Ideal.ofBits .f32 0x3F800000#32 + Ideal.exp (-x))

/-- One element of the normalised branch: the element over the root of its head's mean square, scaled, times the gated `z`. -/
def branch (ms o g z : EReal) : EReal :=
  o * Ideal.rsqrt (ms + Ideal.ofBits .f32 0x358637BD#32) * g * (z * logi z)

/-- One element of the gated sum of the branch projections. -/
def mixVal (h : Fin 1024 → EReal) (ya : Fin 512 → EReal) (yb yc : Fin 256 → EReal) (wg : Fin 1024 → Fin 3072 → EReal)
    (wa : Fin 512 → Fin 1024 → EReal) (wb wc : Fin 256 → Fin 1024 → EReal) (e : Fin 1024) : EReal :=
  logi (∑ k, h k * wg k ⟨e.val, by omega⟩) * ∑ k, ya k * wa k e
    + logi (∑ k, h k * wg k ⟨1024 + e.val, by omega⟩) * ∑ k, yb k * wb k e
    + logi (∑ k, h k * wg k ⟨2048 + e.val, by omega⟩) * ∑ k, yc k * wc k e

/-- The scaled row plus the output projection. -/
def preNorm (h mix : Fin 1024 → EReal) (wo : Fin 1024 → Fin 1024 → EReal) (e : Fin 1024) : EReal :=
  Ideal.ofBits .f32 0x3FD744FD#32 * h e + ∑ k, mix k * wo k e

/-- An element less the row's mean. -/
def centre (y : Fin 1024 → EReal) (e : Fin 1024) : EReal := y e - Ideal.div (∑ k, y k) (Ideal.ofBits .f32 0x44800000#32)

/-- The layer norm of a row. -/
def normVal (y g b : Fin 1024 → EReal) (e : Fin 1024) : EReal :=
  centre y e * Ideal.rsqrt (Ideal.div (∑ k, centre y k * centre y k) (Ideal.ofBits .f32 0x44800000#32)
    + Ideal.ofBits .f32 0x3727C5AC#32) * g e + b e

variable (v0 : Vec Ideal S512x1024 .f32) (v1 : FVec Ideal S512x1024 .bf16)

theorem pay3_read (v2 v3 : Vec Ideal S512x256 .f32) (v6 : Vec Ideal S256x256 .bf16) (v21 : Vec Ideal S1x256 .f32)
    (v25 : Vec Ideal S512x256 .bf16) (r : Fin 512) (l : Fin 256) :
    k0_pay3 v2 v3 v6 v21 v25 (ix2 r l)
      = branch (((∑ j : Fin 256, (v2 (ix2 r j) + v3 (ix2 r j)) * (v2 (ix2 r j) + v3 (ix2 r j)) * v6 (ix2 j l))
          + ∑ j : Fin 256, ((v2 (ix2 r j) + v3 (ix2 r j)) * (v2 (ix2 r j) + v3 (ix2 r j))
              - (v2 (ix2 r j) + v3 (ix2 r j)) * (v2 (ix2 r j) + v3 (ix2 r j))) * v6 (ix2 j l)) * Ideal.ofBits .f32 0x3C800000#32)
          (v2 (ix2 r l) + v3 (ix2 r l)) (v21 (ix2 0 l)) (v25 (ix2 r l)) := by
  unfold branch logi
  pointwise [k0_pay3]
  simp only [zero_sub]

theorem pay4_read (v37 : Vec Ideal S1x1024x1024 .bf16) (v47 : Vec Ideal S512x512 .bf16) (v49 : Vec Ideal S1x512x1024 .bf16)
    (v53 : Vec Ideal S1x1024x1024 .bf16) (v63 : Vec Ideal S512x256 .bf16) (v65 : Vec Ideal S1x256x1024 .bf16)
    (r : Fin 512) (e : Fin 1024) :
    k0_pay4 v1 v37 v47 v49 v53 v63 v65 (ix2 r e)
      = logi (∑ k : Fin 1024, v1 (ix2 r k) * v37 (ix3 0 k e)) * (∑ k : Fin 512, v47 (ix2 r k) * v49 (ix3 0 k e))
        + logi (∑ k : Fin 1024, v1 (ix2 r k) * v53 (ix3 0 k e)) * ∑ k : Fin 256, v63 (ix2 r k) * v65 (ix3 0 k e) := by
  unfold logi
  pointwise [k0_pay4]
  simp only [zero_sub]

/-- The centred row, from the row before it. -/
theorem pay7_read (v36 : FVec Ideal S512x256 .f32) (v69 : FVec Ideal S512x1024 .f32) (v70 : Vec Ideal S1x1024x1024 .bf16)
    (v81 : Vec Ideal S1x256x1024 .bf16) (v89 : Vec Ideal S1x1024x1024 .bf16) (r : Fin 512) (e : Fin 1024) :
    k0_pay7 v0 v1 v36 v69 v70 v81 v89 (ix2 r e)
      = centre (preNorm (fun k => v0 (ix2 r k)) (fun k => v69 (ix2 r k)
          + logi (∑ j : Fin 1024, v1 (ix2 r j) * v70 (ix3 0 j k)) * ∑ j : Fin 256, v36 (ix2 r j) * v81 (ix3 0 j k))
          (fun k e => v89 (ix3 0 k e))) e := by
  unfold centre preNorm logi
  pointwise [k0_pay7]
  simp only [zero_sub]

theorem pay10_read (v94 v96 : FVec Ideal S1x1024 .f32) (v102 : FVec Ideal S512x1024 .f32) (v107 v108 : FVec Ideal S512x1 .f32)
    (r : Fin 512) (e : Fin 1024) :
    k0_pay10 v94 v96 v102 v107 v108 (ix2 r e)
      = v102 (ix2 r e) * Ideal.rsqrt (v107 (ix2 r 0) + v108 (ix2 r 0)) * v94 (ix2 0 e) + v96 (ix2 0 e) := by
  pointwise [k0_pay10]

theorem pay8_read (v36 : FVec Ideal S512x256 .f32) (v69 : FVec Ideal S512x1024 .f32) (v70 : Vec Ideal S1x1024x1024 .bf16)
    (v81 : Vec Ideal S1x256x1024 .bf16) (v89 : Vec Ideal S1x1024x1024 .bf16) (r : Fin 512) :
    k0_pay8 v0 v1 v36 v69 v70 v81 v89 (ix2 r 0)
      = Ideal.div (∑ k : Fin 1024, k0_pay7 v0 v1 v36 v69 v70 v81 v89 (ix2 r k) * k0_pay7 v0 v1 v36 v69 v70 v81 v89 (ix2 r k))
          (Ideal.ofBits .f32 0x44800000#32) := by
  unfold k0_pay8
  generalize k0_pay7 v0 v1 v36 v69 v70 v81 v89 = y
  pointwise []

variable (x0 : Vec Ideal S512x1024 .f32) (x1 : Vec Ideal S512x512 .bf16) (x2 : Vec Ideal S512x256 .bf16) (x3 x4 : Vec Ideal S512x256 .f32)
  (x5 : Vec Ideal S512x256 .bf16) (x6 : Vec Ideal S1x1024x3072 .bf16) (x7 : Vec Ideal S1x512x1024 .bf16)
  (x8 x9 : Vec Ideal S1x256x1024 .bf16) (x10 : Vec Ideal S1x1024x1024 .bf16) (x11 : Vec Ideal S1x256 .f32)
  (x12 : Vec Ideal S256x256 .bf16) (x13 x14 : Vec Ideal S1x1024 .f32) (x15 x16 : Vec Ideal S1024x128 .bf16)
  (x17 : Vec Ideal S1x128 .f32) (x18 : Vec Ideal S512x512 .bf16)

/-- Lane `l` of the summed branch of row `r`. -/
def oRow (r : Fin 512) (l : Fin 256) : EReal := x3 (ix2 r l) + x4 (ix2 r l)

/-- The head's mean square at lane `l`, as the kernel takes it: the squares and what a narrower square leaves of them, both
    against the matrix of the heads. -/
def msRow (r : Fin 512) (l : Fin 256) : EReal :=
  ((∑ j : Fin 256, oRow x3 x4 r j * oRow x3 x4 r j * x12 (ix2 j l))
    + ∑ j : Fin 256, (oRow x3 x4 r j * oRow x3 x4 r j - oRow x3 x4 r j * oRow x3 x4 r j) * x12 (ix2 j l))
    * Ideal.ofBits .f32 0x3C800000#32

/-- Lane `l` of the normalised branch of row `r`. -/
def ycRow (r : Fin 512) (l : Fin 256) : EReal :=
  branch (msRow x3 x4 x12 r l) (oRow x3 x4 r l) (x11 (ix2 0 l)) (x5 (ix2 r l))

/-- Row `r` before the layer norm. -/
def yRow (r : Fin 512) : Fin 1024 → EReal :=
  preNorm (fun k => x0 (ix2 r k))
    (mixVal (fun k => x0 (ix2 r k)) (fun k => x1 (ix2 r k)) (fun k => x2 (ix2 r k)) (ycRow x3 x4 x5 x11 x12 r)
      (fun k e => x6 (ix3 0 k e)) (fun k e => x7 (ix3 0 k e)) (fun k e => x8 (ix3 0 k e)) (fun k e => x9 (ix3 0 k e)))
    (fun k e => x10 (ix3 0 k e))

theorem loaded_branch (r : Fin 512) (l : Fin 256) :
    k0_pay65 x0 x1 x2 x3 x4 x5 x6 x7 x8 x9 x10 x11 x12 x13 x14 x15 x16 x17 x18 (ix2 r l) = ycRow x3 x4 x5 x11 x12 r l := by
  unfold k0_pay65
  rw [pay3_read]
  unfold ycRow msRow oRow
  pointwise [r0_1, r0_2, r0_3]

theorem loaded_gated (r : Fin 512) (e : Fin 1024) :
    k0_pay66 x0 x1 x2 x3 x4 x5 x6 x7 x8 x9 x10 x11 x12 x13 x14 x15 x16 x17 x18 (ix2 r e)
      = logi (∑ k : Fin 1024, x0 (ix2 r k) * x6 (ix3 0 k ⟨e.val, by omega⟩)) * (∑ k : Fin 512, x1 (ix2 r k) * x7 (ix3 0 k e))
        + logi (∑ k : Fin 1024, x0 (ix2 r k) * x6 (ix3 0 k ⟨1024 + e.val, by omega⟩))
            * ∑ k : Fin 256, x2 (ix2 r k) * x8 (ix3 0 k e) := by
  unfold k0_pay66
  rw [pay4_read]
  pointwise [k0_pay64, k0_pay2, r0_0, r0_1, r0_4, r0_5, r0_6, r0_7, r0_8]

theorem loaded_centre (r : Fin 512) (e : Fin 1024) :
    k0_pay69 x0 x1 x2 x3 x4 x5 x6 x7 x8 x9 x10 x11 x12 x13 x14 x15 x16 x17 x18 (ix2 r e)
      = centre (yRow x0 x1 x2 x3 x4 x5 x6 x7 x8 x9 x10 x11 x12 r) e := by
  unfold k0_pay69
  rw [pay7_read]
  simp only [loaded_branch, loaded_gated]
  unfold yRow mixVal
  pointwise [k0_pay64, k0_pay2, r0_0, r0_8, r0_9, r0_10]

theorem loaded_var (r : Fin 512) :
    k0_pay70 x0 x1 x2 x3 x4 x5 x6 x7 x8 x9 x10 x11 x12 x13 x14 x15 x16 x17 x18 (ix2 r 0)
      = Ideal.div (∑ k, centre (yRow x0 x1 x2 x3 x4 x5 x6 x7 x8 x9 x10 x11 x12 r) k
          * centre (yRow x0 x1 x2 x3 x4 x5 x6 x7 x8 x9 x10 x11 x12 r) k) (Ideal.ofBits .f32 0x44800000#32) := by
  unfold k0_pay70
  rw [pay8_read]
  have h := loaded_centre x0 x1 x2 x3 x4 x5 x6 x7 x8 x9 x10 x11 x12 x13 x14 x15 x16 x17 x18 r
  unfold k0_pay69 at h
  simp only [h]

theorem stored (r : Fin 512) (e : Fin 1024) :
    k0_pay10 (k0_pay67 x0 x1 x2 x3 x4 x5 x6 x7 x8 x9 x10 x11 x12 x13 x14 x15 x16 x17 x18)
        (k0_pay68 x0 x1 x2 x3 x4 x5 x6 x7 x8 x9 x10 x11 x12 x13 x14 x15 x16 x17 x18)
        (k0_pay69 x0 x1 x2 x3 x4 x5 x6 x7 x8 x9 x10 x11 x12 x13 x14 x15 x16 x17 x18)
        (k0_pay70 x0 x1 x2 x3 x4 x5 x6 x7 x8 x9 x10 x11 x12 x13 x14 x15 x16 x17 x18)
        (k0_pay71 x0 x1 x2 x3 x4 x5 x6 x7 x8 x9 x10 x11 x12 x13 x14 x15 x16 x17 x18) (ix2 r e)
      = normVal (yRow x0 x1 x2 x3 x4 x5 x6 x7 x8 x9 x10 x11 x12 r) (fun k => x13 (ix2 0 k)) (fun k => x14 (ix2 0 k)) e := by
  rw [pay10_read, loaded_centre, loaded_var]
  unfold normVal
  pointwise [k0_pay67, k0_pay68, k0_pay71, k0_pay5, k0_pay6, k0_pay9, r0_11]

/-- The block of the first result. -/
theorem out_eq (y : S512x1024.Idx) :
    out0_19 x0 x1 x2 x3 x4 x5 x6 x7 x8 x9 x10 x11 x12 x13 x14 x15 x16 x17 x18 y
      = normVal (yRow x0 x1 x2 x3 x4 x5 x6 x7 x8 x9 x10 x11 x12 (y 0)) (fun k => x13 (ix2 0 k)) (fun k => x14 (ix2 0 k)) (y 1) := by
  unfold out0_19
  refine View.canon_apply_of_pieces (Val := Elt Ideal) (S := S512x1024) (e := .f32)
    (fun y => normVal (yRow x0 x1 x2 x3 x4 x5 x6 x7 x8 x9 x10 x11 x12 (y 0)) (fun k => x13 (ix2 0 k)) (fun k => x14 (ix2 0 k)) (y 1))
    _ ?_ y (cover0_19 _ y)
  intro p hp
  simp only [List.mem_cons, List.not_mem_nil, or_false] at hp
  subst hp
  intro x
  obtain ⟨r, e, rfl⟩ : ∃ (r : Fin 512) (e : Fin 1024), x = ix2 r e := ⟨x 0, x 1, by idx_vars x⟩
  refine (stored x0 x1 x2 x3 x4 x5 x6 x7 x8 x9 x10 x11 x12 x13 x14 x15 x16 x17 x18 r e).trans ?_
  have h0 : (((r0_0).emb (ix2 r e)) 0 : Fin 512) = r := Fin.ext (by simp [r0_0])
  have h1 : (((r0_0).emb (ix2 r e)) 1 : Fin 1024) = e := Fin.ext (by simp [r0_0])
  show _ = normVal (yRow x0 x1 x2 x3 x4 x5 x6 x7 x8 x9 x10 x11 x12 (((r0_0).emb (ix2 r e)) 0)) _ _ (((r0_0).emb (ix2 r e)) 1)
  rw [h0, h1]

/-- The block of the second result is that of the first. -/
theorem second_eq (y : S512x1024.Idx) :
    out0_20 x0 x1 x2 x3 x4 x5 x6 x7 x8 x9 x10 x11 x12 x13 x14 x15 x16 x17 x18 y
      = normVal (yRow x0 x1 x2 x3 x4 x5 x6 x7 x8 x9 x10 x11 x12 (y 0)) (fun k => x13 (ix2 0 k)) (fun k => x14 (ix2 0 k)) (y 1) := by
  refine Eq.trans ?_ (out_eq x0 x1 x2 x3 x4 x5 x6 x7 x8 x9 x10 x11 x12 x13 x14 x15 x16 x17 x18 y)
  rfl

end Cert.Merge

end
-- ==== Proof.Merge.Host.lean ====
/- The arrays the merge kernel reads, laid out by the host, and each window's block at a grid point. -/
module

public import proofs.«01_k».proof.Proof.Merge.Block
public import Idealize.ShloMosaic.Lib.StableHlo.ReadAt
public import Idealize.ShloMosaic.Lib.Pipeline.ValueKit

@[expose] public section

set_option maxRecDepth 16384

noncomputable section

namespace Cert.Merge

open Cert.Kernel3Ideal Cert.Kernel3Ideal.Gen Idealize.ShloMosaic Idealize.ShloMosaic.TcCoe Idealize.SL.Sem
  Idealize.ShloMosaic.StableHlo

variable (m : (ℓ : Loc nD τ sig) → Buf (Elt Ideal) ℓ)

/-- The rows. -/
abbrev hA (c : Dev nD) : S32768x1024.Idx → EReal := m (c, Proc.tc.devRef main_arg0)
/-- The attention branch. -/
abbrev yaA (c : Dev nD) : S32768x512.Idx → EReal := m (c, Proc.tc.devRef main_arg1)
/-- The second branch. -/
abbrev ybA (c : Dev nD) : S32768x256.Idx → EReal := m (c, Proc.tc.devRef main_arg2)
/-- The two halves of the third branch. -/
abbrev ofA (c : Dev nD) : S32768x256.Idx → EReal := m (c, Proc.tc.devRef main_arg3)
abbrev obA (c : Dev nD) : S32768x256.Idx → EReal := m (c, Proc.tc.devRef main_arg4)
/-- The third branch's gate. -/
abbrev zA (c : Dev nD) : S32768x256.Idx → EReal := m (c, Proc.tc.devRef main_arg5)
/-- The input projection, whose last columns are the gates'. -/
abbrev winA (c : Dev nD) : S4x1024x5648.Idx → EReal := m (c, Proc.tc.devRef main_arg6)
/-- The third branch's scale. -/
abbrev gnA (c : Dev nD) : S4x64.Idx → EReal := m (c, Proc.tc.devRef main_arg7)
/-- The branch projections. -/
abbrev waA (c : Dev nD) : S4x512x1024.Idx → EReal := m (c, Proc.tc.devRef main_arg8)
abbrev wbA (c : Dev nD) : S4x256x1024.Idx → EReal := m (c, Proc.tc.devRef main_arg9)
abbrev wcA (c : Dev nD) : S4x256x1024.Idx → EReal := m (c, Proc.tc.devRef main_arg10)
/-- The output projection. -/
abbrev woA (c : Dev nD) : S4x1024x1024.Idx → EReal := m (c, Proc.tc.devRef main_arg11)
/-- The layer norm's scale and shift. -/
abbrev lgA (c : Dev nD) : S4x1024.Idx → EReal := m (c, Proc.tc.devRef main_arg12)
abbrev lbA (c : Dev nD) : S4x1024.Idx → EReal := m (c, Proc.tc.devRef main_arg13)

variable (c : Dev nD)

theorem h_read (i : S32768x1024.Idx) : (V m c main_arg0) i = hA m c i := by
  unfold V
  after_reads_at
theorem ya_read (i : S32768x512.Idx) : (V m c main_v25) i = yaA m c i := by
  unfold V
  after_reads_at
theorem yb_read (i : S32768x256.Idx) : (V m c main_v26) i = ybA m c i := by
  unfold V
  after_reads_at
theorem of_read (i : S32768x256.Idx) : (V m c main_arg3) i = ofA m c i := by
  unfold V
  after_reads_at
theorem ob_read (i : S32768x256.Idx) : (V m c main_arg4) i = obA m c i := by
  unfold V
  after_reads_at
theorem z_read (i : S32768x256.Idx) : (V m c main_v27) i = zA m c i := by
  unfold V
  after_reads_at
theorem gates_read (p : Fin 4) (k : Fin 1024) (e : Fin 3072) :
    (V m c main_v1) (ix3 p k e) = winA m c (ix3 p k ⟨2576 + e.val, by omega⟩) := by
  unfold V
  after_reads_at
theorem wa_read (i : S4x512x1024.Idx) : (V m c main_v2) i = waA m c i := by
  unfold V
  after_reads_at
theorem wb_read (i : S4x256x1024.Idx) : (V m c main_v3) i = wbA m c i := by
  unfold V
  after_reads_at
theorem wc_read (i : S4x256x1024.Idx) : (V m c main_v4) i = wcA m c i := by
  unfold V
  after_reads_at
theorem wo_read (i : S4x1024x1024.Idx) : (V m c main_v5) i = woA m c i := by
  unfold V
  after_reads_at
theorem gn_read (l : Fin 256) : (V m c main_v24) (ix2 0 l) = gnA m c (ix2 0 ⟨l.val % 64, by omega⟩) := by
  unfold V
  after_reads_at
theorem lg_read (e : Fin 1024) : (V m c main_v40) (ix2 0 e) = lgA m c (ix2 0 e) := by
  unfold V
  after_reads_at
theorem lb_read (e : Fin 1024) : (V m c main_v43) (ix2 0 e) = lbA m c (ix2 0 e) := by
  unfold V
  after_reads_at

/-- Whether two heads agree, as a number. -/
theorem word_same (a b : Fin 4) :
    (FloatOps.uitofp (F := Ideal) .bf16 (IntOp.cmpi CmpIPredicate.eq (BitVec.ofNat 32 a.val) (BitVec.ofNat 32 b.val)) : EReal)
      = if a.val = b.val then (1 : EReal) else 0 := by
  have h : IntOp.cmpi CmpIPredicate.eq (BitVec.ofNat 32 a.val) (BitVec.ofNat 32 b.val) = if a.val = b.val then 1#1 else 0#1 := by
    revert a b
    decide +kernel
  rw [h]
  split
  · show (((1#1 : BitVec 1).toNat : ℝ) : EReal) = 1
    simp
  · show (((0#1 : BitVec 1).toNat : ℝ) : EReal) = 0
    simp

/-- The matrix of the heads holds one where the lanes' heads agree. -/
theorem seg_read (j l : Fin 256) :
    (V m c main_v37) (ix2 j l) = if j.val / 64 = l.val / 64 then (1 : EReal) else 0 := by
  unfold V
  after_reads_at
  exact word_same ⟨j.val / 64, by omega⟩ ⟨l.val / 64, by omega⟩

/-- Where the windows' blocks lie at a grid point. -/
theorem index_rows : ∀ t : Fin cfg0.N, win0_0.index t = ![t.val, 0] ∧ win0_1.index t = ![t.val, 0]
    ∧ win0_2.index t = ![t.val, 0] ∧ win0_3.index t = ![t.val, 0] ∧ win0_4.index t = ![t.val, 0]
    ∧ win0_5.index t = ![t.val, 0] ∧ win0_19.index t = ![t.val, 0] ∧ win0_20.index t = ![t.val, 0] :=
  (by decide +kernel : ∀ t : Fin grid0.N, win0_0.index t = ![t.val, 0] ∧ win0_1.index t = ![t.val, 0]
    ∧ win0_2.index t = ![t.val, 0] ∧ win0_3.index t = ![t.val, 0] ∧ win0_4.index t = ![t.val, 0]
    ∧ win0_5.index t = ![t.val, 0] ∧ win0_19.index t = ![t.val, 0] ∧ win0_20.index t = ![t.val, 0])

theorem index_whole : ∀ t : Fin cfg0.N, win0_6.index t = ![0, 0, 0] ∧ win0_7.index t = ![0, 0, 0]
    ∧ win0_8.index t = ![0, 0, 0] ∧ win0_9.index t = ![0, 0, 0] ∧ win0_10.index t = ![0, 0, 0]
    ∧ win0_11.index t = ![0, 0] ∧ win0_12.index t = ![0, 0] ∧ win0_13.index t = ![0, 0] ∧ win0_14.index t = ![0, 0] :=
  (by decide +kernel : ∀ t : Fin grid0.N, win0_6.index t = ![0, 0, 0] ∧ win0_7.index t = ![0, 0, 0]
    ∧ win0_8.index t = ![0, 0, 0] ∧ win0_9.index t = ![0, 0, 0] ∧ win0_10.index t = ![0, 0, 0]
    ∧ win0_11.index t = ![0, 0] ∧ win0_12.index t = ![0, 0] ∧ win0_13.index t = ![0, 0] ∧ win0_14.index t = ![0, 0])

variable (t : Fin cfg0.N) (r : Fin 512) (a : Fin 32768)

theorem h_block (ha : a.val = t.val * 512 + r.val) (k : Fin 1024) : iblk m c 0 t (ix2 r k) = hA m c (ix2 a k) := by
  refine Eq.trans ?_ (h_read m c (ix2 a k))
  blk_ext [iblk, (index_rows t).1]
theorem ya_block (ha : a.val = t.val * 512 + r.val) (k : Fin 512) : iblk m c 1 t (ix2 r k) = yaA m c (ix2 a k) := by
  refine Eq.trans ?_ (ya_read m c (ix2 a k))
  blk_ext [iblk, (index_rows t).2.1]
theorem yb_block (ha : a.val = t.val * 512 + r.val) (k : Fin 256) : iblk m c 2 t (ix2 r k) = ybA m c (ix2 a k) := by
  refine Eq.trans ?_ (yb_read m c (ix2 a k))
  blk_ext [iblk, (index_rows t).2.2.1]
theorem of_block (ha : a.val = t.val * 512 + r.val) (k : Fin 256) : iblk m c 3 t (ix2 r k) = ofA m c (ix2 a k) := by
  refine Eq.trans ?_ (of_read m c (ix2 a k))
  blk_ext [iblk, (index_rows t).2.2.2.1]
theorem ob_block (ha : a.val = t.val * 512 + r.val) (k : Fin 256) : iblk m c 4 t (ix2 r k) = obA m c (ix2 a k) := by
  refine Eq.trans ?_ (ob_read m c (ix2 a k))
  blk_ext [iblk, (index_rows t).2.2.2.2.1]
theorem z_block (ha : a.val = t.val * 512 + r.val) (k : Fin 256) : iblk m c 5 t (ix2 r k) = zA m c (ix2 a k) := by
  refine Eq.trans ?_ (z_read m c (ix2 a k))
  blk_ext [iblk, (index_rows t).2.2.2.2.2.1]
theorem gates_block (k : Fin 1024) (e : Fin 3072) :
    iblk m c 6 t (ix3 0 k e) = winA m c (ix3 0 k ⟨2576 + e.val, by omega⟩) := by
  refine Eq.trans ?_ (gates_read m c 0 k e)
  blk_ext [iblk, (index_whole t).1]
theorem wa_block (k : Fin 512) (e : Fin 1024) : iblk m c 7 t (ix3 0 k e) = waA m c (ix3 0 k e) := by
  refine Eq.trans ?_ (wa_read m c (ix3 0 k e))
  blk_ext [iblk, (index_whole t).2.1]
theorem wb_block (k : Fin 256) (e : Fin 1024) : iblk m c 8 t (ix3 0 k e) = wbA m c (ix3 0 k e) := by
  refine Eq.trans ?_ (wb_read m c (ix3 0 k e))
  blk_ext [iblk, (index_whole t).2.2.1]
theorem wc_block (k : Fin 256) (e : Fin 1024) : iblk m c 9 t (ix3 0 k e) = wcA m c (ix3 0 k e) := by
  refine Eq.trans ?_ (wc_read m c (ix3 0 k e))
  blk_ext [iblk, (index_whole t).2.2.2.1]
theorem wo_block (k e : Fin 1024) : iblk m c 10 t (ix3 0 k e) = woA m c (ix3 0 k e) := by
  refine Eq.trans ?_ (wo_read m c (ix3 0 k e))
  blk_ext [iblk, (index_whole t).2.2.2.2.1]
theorem gn_block (l : Fin 256) : iblk m c 11 t (ix2 0 l) = gnA m c (ix2 0 ⟨l.val % 64, by omega⟩) := by
  refine Eq.trans ?_ (gn_read m c l)
  blk_ext [iblk, (index_whole t).2.2.2.2.2.1]
theorem seg_block (j l : Fin 256) : iblk m c 12 t (ix2 j l) = if j.val / 64 = l.val / 64 then (1 : EReal) else 0 := by
  refine Eq.trans ?_ (seg_read m c j l)
  blk_ext [iblk, (index_whole t).2.2.2.2.2.2.1]
theorem lg_block (e : Fin 1024) : iblk m c 13 t (ix2 0 e) = lgA m c (ix2 0 e) := by
  refine Eq.trans ?_ (lg_read m c e)
  blk_ext [iblk, (index_whole t).2.2.2.2.2.2.2.1]
theorem lb_block (e : Fin 1024) : iblk m c 14 t (ix2 0 e) = lbA m c (ix2 0 e) := by
  refine Eq.trans ?_ (lb_read m c e)
  blk_ext [iblk, (index_whole t).2.2.2.2.2.2.2.2]

end Cert.Merge

end
-- ==== Proof.Merge.Rule.lean ====
/- The merge of the branches from the argument arrays, and the kernel's and the reference's way to it: the sum of a head's
   64 lanes is the sum of all lanes against the matrix of the heads, and what a real square leaves of itself is zero. -/
module

public import proofs.«01_k».proof.Proof.Merge.Block
public import proofs.«01_k».proof.Proof.Gen.Reference3Ideal.Read

@[expose] public section

set_option maxRecDepth 16384

noncomputable section

namespace Cert.Merge

open Idealize.ShloMosaic Cert.Reference3Ideal Cert.Reference3Ideal.Gen Cert.Reference3Ideal.Read

/-- The mean square of the head of lane `l`. -/
def headSq (o : Fin 256 → EReal) (l : Fin 256) : EReal :=
  Ideal.div (∑ k : Fin 64, o ⟨l.val / 64 * 64 + k.val, by omega⟩ * o ⟨l.val / 64 * 64 + k.val, by omega⟩)
    (Ideal.ofBits .f32 0x42800000#32)

/-- The word of one sixty-fourth. -/
theorem word_part : Ideal.ofBits .f32 0x3C800000#32 = ((1 / 64 : ℝ) : EReal) := by
  simp [Ideal.ofBits, Ideal.ieee, -EReal.coe_mul]; norm_num

/-- The word of sixty-four. -/
theorem word_lanes : Ideal.ofBits .f32 0x42800000#32 = ((64 : ℝ) : EReal) := by
  simp [Ideal.ofBits, Ideal.ieee, -EReal.coe_mul]; norm_num

/-- All lanes against the matrix of the heads: the lanes of one head. -/
theorem sum_head (y : Fin 256 → EReal) (l : Fin 256) :
    ∑ j : Fin 256, y j * (if j.val / 64 = l.val / 64 then (1 : EReal) else 0)
      = ∑ k : Fin 64, y ⟨l.val / 64 * 64 + k.val, by omega⟩ := by
  symm
  refine Finset.sum_of_injOn (fun k : Fin 64 => (⟨l.val / 64 * 64 + k.val, by omega⟩ : Fin 256)) ?_ ?_ ?_ ?_
  · intro a _ b _ h
    have := congrArg Fin.val h
    dsimp only at this
    exact Fin.ext (by omega)
  · intro a _
    simp
  · intro j _ hj
    rw [if_neg, mul_zero]
    intro h
    exact hj ⟨⟨j.val % 64, by omega⟩, by simp, Fin.ext (by dsimp only; omega)⟩
  · intro k _
    rw [if_pos (by dsimp only; omega), mul_one]

/-- The kernel's mean square of a real branch. -/
theorem mean_eq (o : Fin 256 → EReal) (ho : ∀ l, ∃ x : ℝ, o l = (x : EReal)) (l : Fin 256) :
    ((∑ j : Fin 256, o j * o j * (if j.val / 64 = l.val / 64 then (1 : EReal) else 0))
      + ∑ j : Fin 256, (o j * o j - o j * o j) * (if j.val / 64 = l.val / 64 then (1 : EReal) else 0))
      * Ideal.ofBits .f32 0x3C800000#32 = headSq o l := by
  have hz : ∀ j, (o j * o j - o j * o j) = 0 := fun j => by
    obtain ⟨x, hx⟩ := ho j
    rw [hx, ← EReal.coe_mul, ← EReal.coe_sub, sub_self, EReal.coe_zero]
  simp only [hz, zero_mul, Finset.sum_const_zero, add_zero]
  rw [sum_head (fun j => o j * o j) l, headSq, word_part, word_lanes, Ideal.div_coe (by norm_num)]

/-- One element of the merge's result, from the argument arrays. -/
def mergeVal (h : S32768x1024.Idx → EReal) (ya : S32768x512.Idx → EReal) (yb o_f o_b z : S32768x256.Idx → EReal)
    (w_in : S4x1024x5648.Idx → EReal) (gn : S4x64.Idx → EReal) (wa : S4x512x1024.Idx → EReal) (wb wc : S4x256x1024.Idx → EReal)
    (wo : S4x1024x1024.Idx → EReal) (lg lb : S4x1024.Idx → EReal) (a : Fin 32768) (e : Fin 1024) : EReal :=
  normVal (preNorm (fun k => h (ix2 a k))
    (mixVal (fun k => h (ix2 a k)) (fun k => ya (ix2 a k)) (fun k => yb (ix2 a k))
      (fun l => branch (headSq (fun l => o_f (ix2 a l) + o_b (ix2 a l)) l) (o_f (ix2 a l) + o_b (ix2 a l))
        (gn (ix2 0 ⟨l.val % 64, by omega⟩)) (z (ix2 a l)))
      (fun k e => w_in (ix3 0 k ⟨2576 + e.val, by omega⟩)) (fun k e => wa (ix3 0 k e)) (fun k e => wb (ix3 0 k e))
      (fun k e => wc (ix3 0 k e)))
    (fun k e => wo (ix3 0 k e))) (fun k => lg (ix2 0 k)) (fun k => lb (ix2 0 k)) e

variable (h : FVec Ideal S32768x1024 .f32) (ya : FVec Ideal S32768x512 .f32) (yb o_f o_b z : FVec Ideal S32768x256 .f32)
  (w_in : FVec Ideal S4x1024x5648 .f32) (gn : FVec Ideal S4x64 .f32) (wa : FVec Ideal S4x512x1024 .f32)
  (wb wc : FVec Ideal S4x256x1024 .f32) (wo : FVec Ideal S4x1024x1024 .f32) (lg lb : FVec Ideal S4x1024 .f32)

theorem square_read (a : Fin 32768) (l : Fin 256) :
    val_main_v6 (F := Ideal) o_f o_b (ix3 a ⟨l.val / 64, by omega⟩ 0) = headSq (fun l => o_f (ix2 a l) + o_b (ix2 a l)) l := by
  unfold headSq
  pointwise [val_main_v6, val_main_v5, val_main_v4, val_main_v3, val_main_v2, val_main_v1, val_main_v0, val_main_cst, val_main_cst_0]

theorem branch_read (a : Fin 32768) (l : Fin 256) :
    val_main_v20 (F := Ideal) o_f o_b z gn (ix2 a l)
      = branch (headSq (fun l => o_f (ix2 a l) + o_b (ix2 a l)) l) (o_f (ix2 a l) + o_b (ix2 a l))
          (gn (ix2 0 ⟨l.val % 64, by omega⟩)) (z (ix2 a l)) := by
  rw [← square_read]
  unfold val_main_v20 val_main_v19 val_main_v16 val_main_v11 val_main_v10 val_main_v9 val_main_v8
  generalize val_main_v6 (F := Ideal) o_f o_b = y
  unfold branch logi
  pointwise [val_main_v18, val_main_v17, val_main_v15, val_main_v14, val_main_v13, val_main_v12, val_main_v7, val_main_cst_1,
    val_main_v1, val_main_v0, val_main_call0_v5, val_main_call0_v4, val_main_call0_v3, val_main_call0_v2, val_main_call0_v1,
    val_main_call0_v0, val_main_call0_cst, val_main_call0_cst_0]

theorem gate_read (a : Fin 32768) (e : Fin 3072) :
    val_main_v30 (F := Ideal) h w_in (ix2 a e) = logi (∑ k : Fin 1024, h (ix2 a k) * w_in (ix3 0 k ⟨2576 + e.val, by omega⟩)) := by
  unfold logi
  pointwise [val_main_v30, val_main_v29, val_main_v28, val_main_v27, val_main_v26, val_main_v25, val_main_v24, val_main_v23,
    val_main_v22, val_main_v21, val_main_cst_2, val_main_cst_3]

theorem mix_read (a : Fin 32768) (e : Fin 1024) :
    val_main_v47 (F := Ideal) h ya yb o_f o_b z w_in gn wa wb wc (ix2 a e)
      = mixVal (fun k => h (ix2 a k)) (fun k => ya (ix2 a k)) (fun k => yb (ix2 a k))
          (fun l => val_main_v20 (F := Ideal) o_f o_b z gn (ix2 a l))
          (fun k e => w_in (ix3 0 k ⟨2576 + e.val, by omega⟩)) (fun k e => wa (ix3 0 k e)) (fun k e => wb (ix3 0 k e))
          (fun k e => wc (ix3 0 k e)) e := by
  have hg := gate_read h w_in a
  unfold mixVal
  unfold val_main_v47 val_main_v46 val_main_v45 val_main_v42 val_main_v41 val_main_v37 val_main_v31 val_main_v32 val_main_v33
  generalize val_main_v20 (F := Ideal) o_f o_b z gn = y
  generalize val_main_v30 (F := Ideal) h w_in = g at hg ⊢
  pointwise [val_main_v44, val_main_v43, val_main_v40, val_main_v39, val_main_v38, val_main_v36, val_main_v35, val_main_v34]
  simp only [hg]

theorem pre_read (a : Fin 32768) (e : Fin 1024) :
    val_main_v53 (F := Ideal) h ya yb o_f o_b z w_in gn wa wb wc wo (ix2 a e)
      = preNorm (fun k => h (ix2 a k)) (fun k => val_main_v47 (F := Ideal) h ya yb o_f o_b z w_in gn wa wb wc (ix2 a k))
          (fun k e => wo (ix3 0 k e)) e := by
  unfold preNorm val_main_v53 val_main_v52
  generalize val_main_v47 (F := Ideal) h ya yb o_f o_b z w_in gn wa wb wc = y
  pointwise [val_main_v51, val_main_v50, val_main_v49, val_main_v48, val_main_cst_4]

theorem norm_read (a : Fin 32768) (e : Fin 1024) :
    val_main_v79 (F := Ideal) h ya yb o_f o_b z w_in gn wa wb wc wo lg lb (ix2 a e)
      = normVal (fun k => val_main_v53 (F := Ideal) h ya yb o_f o_b z w_in gn wa wb wc wo (ix2 a k))
          (fun k => lg (ix2 0 k)) (fun k => lb (ix2 0 k)) e := by
  have hc : ∀ e : Fin 1024, val_main_v59 (F := Ideal) h ya yb o_f o_b z w_in gn wa wb wc wo (ix2 a e)
      = centre (fun k => val_main_v53 (F := Ideal) h ya yb o_f o_b z w_in gn wa wb wc wo (ix2 a k)) e := fun e => by
    unfold val_main_v59 val_main_v58 val_main_v57 val_main_v55 val_main_v54 centre
    generalize val_main_v53 (F := Ideal) h ya yb o_f o_b z w_in gn wa wb wc wo = y
    pointwise [val_main_v56, val_main_cst_5, val_main_cst_6]
  unfold normVal
  simp only [← hc]
  unfold val_main_v79 val_main_v74 val_main_v69 val_main_v68 val_main_v67 val_main_v66 val_main_v64 val_main_v62 val_main_v61 val_main_v60
  generalize val_main_v59 (F := Ideal) h ya yb o_f o_b z w_in gn wa wb wc wo = y
  pointwise [val_main_v78, val_main_v77, val_main_v76, val_main_v75, val_main_v73, val_main_v72, val_main_v71, val_main_v70,
    val_main_v65, val_main_v63, val_main_cst_7, val_main_cst_8, val_main_cst_9]

/-- The reference's element. -/
theorem result_eq (a : Fin 32768) (e : Fin 1024) :
    val_main_v79 (F := Ideal) h ya yb o_f o_b z w_in gn wa wb wc wo lg lb (ix2 a e)
      = mergeVal h ya yb o_f o_b z w_in gn wa wb wc wo lg lb a e := by
  rw [norm_read]
  simp only [pre_read, mix_read, branch_read]
  rfl

end Cert.Merge

end
-- ==== Proof.Merge.Value.lean ====
/- The merge kernel's two result arrays and the claims about them: every block written back is the block of one function of
   the arguments, the blocks cover the arrays, and with a real third branch the function is the reference's. -/
module

public import proofs.«01_k».proof.Defs
public import proofs.«01_k».proof.Proof.Gen.Reference3Ideal.Run
public import proofs.«01_k».proof.Proof.Gen.Pre_finite_rule
public import proofs.«01_k».proof.Proof.Attn.Softmax
public import proofs.«01_k».proof.Proof.Merge.Host
public import proofs.«01_k».proof.Proof.Merge.Rule
public import Idealize.ShloMosaic.Lib.Quiescent

@[expose] public section

set_option maxRecDepth 16384

noncomputable section

namespace Cert.Merge

open Cert.Kernel3Ideal Cert.Kernel3Ideal.Gen Idealize.ShloMosaic Idealize.ShloMosaic.TcCoe Idealize.SL.Sem
  Idealize.ShloMosaic.StableHlo

variable (m : (ℓ : Loc nD τ sig) → Buf (Elt Ideal) ℓ) (ρ : Dev nD → PrngReg)

/-- Every element of the third branch's two halves is real. -/
def RealBranch (c : Dev nD) : Prop :=
  (∀ i, ∃ x : ℝ, ofA m c i = (x : EReal)) ∧ ∀ i, ∃ x : ℝ, obA m c i = (x : EReal)

/-- Both results as one function of the arguments. -/
def resultArr (c : Dev nD) : S32768x1024.Idx → EReal := fun i =>
  mergeVal (hA m c) (yaA m c) (ybA m c) (ofA m c) (obA m c) (zA m c) (winA m c) (gnA m c) (waA m c) (wbA m c) (wcA m c)
    (woA m c) (lgA m c) (lbA m c) (i 0) (i 1)

/-- A grid point's block is the block of the whole-array function. -/
theorem block_eq (c : Dev nD) (hr : RealBranch m c) (t : Fin cfg0.N) (r : Fin 512) (e : Fin 1024) (a : Fin 32768)
    (ha : a.val = t.val * 512 + r.val) :
    normVal (yRow (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) r)
      (fun k => iblk m c 13 t (ix2 0 k)) (fun k => iblk m c 14 t (ix2 0 k)) e
      = mergeVal (hA m c) (yaA m c) (ybA m c) (ofA m c) (obA m c) (zA m c) (winA m c) (gnA m c) (waA m c) (wbA m c) (wcA m c)
          (woA m c) (lgA m c) (lbA m c) a e := by
  have hreal : ∀ l : Fin 256, ∃ x : ℝ, ofA m c (ix2 a l) + obA m c (ix2 a l) = (x : EReal) := fun l => by
    obtain ⟨x, hx⟩ := hr.1 (ix2 a l)
    obtain ⟨y, hy⟩ := hr.2 (ix2 a l)
    exact ⟨x + y, by rw [hx, hy, EReal.coe_add]⟩
  have hms : ∀ l, msRow (iblk m c 3 t) (iblk m c 4 t) (iblk m c 12 t) r l
      = headSq (fun l => ofA m c (ix2 a l) + obA m c (ix2 a l)) l := fun l => by
    rw [← mean_eq _ hreal l]
    unfold msRow oRow
    simp only [of_block m c t r a ha, ob_block m c t r a ha, seg_block m c t]
  unfold mergeVal yRow ycRow
  simp only [hms, h_block m c t r a ha, ya_block m c t r a ha, yb_block m c t r a ha, z_block m c t r a ha, gates_block m c t,
    wa_block m c t, wb_block m c t, wc_block m c t, wo_block m c t, gn_block m c t, lg_block m c t, lb_block m c t, oRow,
    of_block m c t r a ha, ob_block m c t r a ha]

theorem first_final (c : Dev nD) (hr : RealBranch m c) : (dats m 0 c).arrAt 19 cfg0.N = resultArr m c := by
  refine (dats m 0 c).arrAt_eq_of_covers 19 _ (by decide +kernel) fun t hf y => ?_
  have h0 : (((win0_19.blk t).view.emb y) 0 : ℕ) = t.val * 512 + (y 0).val := by blk_simp [(index_rows t).2.2.2.2.2.2.1]
  have h1 : (((win0_19.blk t).view.emb y) 1 : ℕ) = (y 1).val := by blk_simp [(index_rows t).2.2.2.2.2.2.1]
  blk_simp
  rw [after0_19]
  refine (out_eq _ _ _ _ _ _ _ _ _ _ _ _ _ _ _ _ _ _ _ y).trans
    ((block_eq m c hr t (y 0) (y 1) ((win0_19.blk t).view.emb y 0) h0).trans ?_)
  unfold resultArr
  exact congrArg _ (Fin.ext h1.symm)

theorem second_final (c : Dev nD) (hr : RealBranch m c) : (dats m 0 c).arrAt 20 cfg0.N = resultArr m c := by
  refine (dats m 0 c).arrAt_eq_of_covers 20 _ (by decide +kernel) fun t hf y => ?_
  have h0 : (((win0_20.blk t).view.emb y) 0 : ℕ) = t.val * 512 + (y 0).val := by blk_simp [(index_rows t).2.2.2.2.2.2.2]
  have h1 : (((win0_20.blk t).view.emb y) 1 : ℕ) = (y 1).val := by blk_simp [(index_rows t).2.2.2.2.2.2.2]
  blk_simp
  rw [after0_20]
  refine (second_eq _ _ _ _ _ _ _ _ _ _ _ _ _ _ _ _ _ _ _ y).trans
    ((block_eq m c hr t (y 0) (y 1) ((win0_20.blk t).view.emb y 0) h0).trans ?_)
  unfold resultArr
  exact congrArg _ (Fin.ext h1.symm)

/-- An element whose magnitude compares below plus infinity is real. -/
theorem real_of_bit {x : EReal} (h : BitVec.ofBool (decide ((FloatOps.absf (F := Ideal) (φ := .f32) x : EReal) <
    Ideal.ofBits .f32 0x7F800000#32)) = 1#1) : ∃ r : ℝ, x = (r : EReal) := by
  by_cases hl : (FloatOps.absf (F := Ideal) (φ := .f32) x : EReal) < Ideal.ofBits .f32 0x7F800000#32
  · rw [Cert.Attn.word_inf] at hl
    exact Cert.Attn.real_of_abs_lt hl
  · rw [decide_eq_false hl] at h
    exact absurd h (by decide)

theorem bit_and : ∀ a b : BitVec 1, a &&& b = 1#1 → a = 1#1 ∧ b = 1#1 := by decide

/-- Under the precondition the third branch is real. -/
theorem real_branch (h : Cert.Pre_Kernel3Ideal_finite_rule m) (c : Dev nD) : RealBranch m c := by
  have hc := h c
  have key : ∀ i : S32768x256.Idx, (BitVec.ofBool (decide ((FloatOps.absf (F := Ideal) (φ := .f32) (ofA m c i) : EReal) <
      Ideal.ofBits .f32 0x7F800000#32))) &&& (BitVec.ofBool (decide ((FloatOps.absf (F := Ideal) (φ := .f32) (obA m c i) : EReal) <
      Ideal.ofBits .f32 0x7F800000#32))) = 1#1 := fun i => by
    have := congrFun hc i
    pointwise [Cert.Pre_finite_rule.fn] at this
    exact this
  exact ⟨fun i => real_of_bit (bit_and _ _ (key i)).1, fun i => real_of_bit (bit_and _ _ (key i)).2⟩

/-- The reference ends with its arguments unchanged; it declares no semaphore. -/
theorem frame_reference : Cert.quiescent_Reference3Ideal := fun m ρ _ =>
  (θ_run Cert.Reference3Ideal.defs _ _).mono (fun r h => ⟨fun c => (h c).2.2,
      Idealize.ShloMosaic.sem_eq_zero_of_no_sems (by decide) r.2⟩)
    (Cert.Reference3Ideal.Value.run (F := Ideal) m ρ)

/-- The reference's array is the kernel's. -/
theorem reference_arr (c : Dev nD) :
    (Cert.Reference3Ideal.Read.val_main_v79 (F := Ideal) (hA m c) (yaA m c) (ybA m c) (ofA m c) (obA m c) (zA m c) (winA m c)
      (gnA m c) (waA m c) (wbA m c) (wcA m c) (woA m c) (lgA m c) (lbA m c) : S32768x1024.Idx → EReal) = resultArr m c := by
  funext i
  obtain ⟨a, e, rfl⟩ : ∃ (a : Fin 32768) (e : Fin 1024), i = ix2 a e := ⟨i 0, i 1, by idx_vars i⟩
  exact result_eq _ _ _ _ _ _ _ _ _ _ _ _ _ _ a e

/-- The merge kernel and the reference end with equal results. -/
theorem algebraic : Cert.algebraic_Kernel3Ideal_Reference3Ideal_pre_finite_rule := by
  intro m ρ m' ρ' hpre hag
  refine ⟨fun c => resultArr m c, fun c => resultArr m c, (θ_run _ _ _).mono (fun _ h c =>
      ⟨(h c).1.trans (first_final m c (real_branch m hpre c)), (h c).2.1.trans (second_final m c (real_branch m hpre c)),
        (h c).2.2.2.2⟩)
    (Cert.Kernel3Ideal.Value.run_blocks m ρ),
    (θ_run _ _ _).mono (fun _ h c => ⟨(h c).1.trans ?_, (h c).2.1.trans ?_, (h c).2.2⟩) (Cert.Reference3Ideal.Value.run m' ρ')⟩
  · refine (Cert.Reference3Ideal.Read.val_main_v79_eq m' c).trans ?_
    obtain ⟨h0, h1, h2, h3, h4, h5, h6, h7, h8, h9, h10, h11, h12, h13, -, -⟩ := hag c
    rw [h0, h1, h2, h3, h4, h5, h6, h7, h8, h9, h10, h11, h12, h13]
    exact reference_arr m c
  · refine (Cert.Reference3Ideal.Read.val_main_v80_eq m' c).trans ?_
    obtain ⟨h0, h1, h2, h3, h4, h5, h6, h7, h8, h9, h10, h11, h12, h13, -, -⟩ := hag c
    rw [h0, h1, h2, h3, h4, h5, h6, h7, h8, h9, h10, h11, h12, h13]
    exact reference_arr m c

end Cert.Merge

end
-- ==== Proof.Attn.Block.lean ====
/- What one grid point of the attention kernel leaves in its output block, element by element: lane `l` of a row belongs to
   head `l / 64`; its value is the head's softmax-weighted sum of one column of the value block over the sum of the
   weights. -/
module

public import proofs.«01_k».proof.Proof.Gen.KernelIdeal.Value
public import Idealize.ShloMosaic.Lib.Pointwise

@[expose] public section

set_option maxRecDepth 16384

noncomputable section

namespace Cert.Attn

open Cert.KernelIdeal Cert.KernelIdeal.Gen Idealize.ShloMosaic

/-- The scaled score of a padded query row against key row `s`. -/
def score (q : Fin 128 → EReal) (K : Fin 4096 → Fin 128 → EReal) (s : Fin 4096) : EReal :=
  ∑ d, q d * Named.named (F := Ideal) κ "scale" (φ := .f32) 0x3E38AA3B#32 * K s d

/-- The weight of key row `s`: two to the power of its score less the greatest score. -/
def weight (q : Fin 128 → EReal) (K : Fin 4096 → Fin 128 → EReal) (s : Fin 4096) : EReal :=
  Ideal.exp2 (score q K s - Finset.univ.fold max (Ideal.ofBits .f32 0xFF800000#32) (score q K))

/-- One head's value at one lane: the weighted sum of the column `v` over the weighted sum of the column `o`. -/
def headVal (q : Fin 128 → EReal) (K : Fin 4096 → Fin 128 → EReal) (v o : Fin 4096 → EReal) : EReal :=
  Ideal.div (∑ s, weight q K s * v s) (∑ s, weight q K s * o s)

/-- Lane `l` of row `r` of an output block, from the query, key and value blocks. -/
def blockVal (x0 : S512x1024.Idx → EReal) (x1 : S4096x128.Idx → EReal) (x2 : S4096x256.Idx → EReal) (r l : Fin 512) : EReal :=
  headVal (fun d => x0 (ix2 r ⟨l.val / 64 * 128 + d.val, by omega⟩)) (fun s d => x1 (ix2 s d))
    (fun s => x2 (ix2 s ⟨l.val / 256 * 64 + l.val % 64, by omega⟩)) (fun s => x2 (ix2 s 128))

variable (x0 : Vec Ideal S512x1024 .bf16) (x1 : Vec Ideal S4096x128 .bf16) (x2 : Vec Ideal S4096x256 .bf16)

/-- Choosing by the lane's half. -/
theorem select_low (l : Fin 128) (a b : EReal) :
    Scalar.select (IntOp.cmpi CmpIPredicate.slt (BitVec.ofNat 32 l.val) 64#32) a b = if l.val < 64 then a else b := by
  have h : (IntOp.cmpi CmpIPredicate.slt (BitVec.ofNat 32 l.val) 64#32 = 1#1) ↔ l.val < 64 :=
    (by decide +kernel : ∀ l : Fin 128, (IntOp.cmpi CmpIPredicate.slt (BitVec.ofNat 32 l.val) 64#32 = 1#1) ↔ l.val < 64) l
  show (if _ = 1#1 then a else b) = _
  simp only [h]

/-- A head's value is the block's at lane `l` when the query lanes and the value column are those of `l`. -/
theorem headVal_eq (r l : Fin 512) (f : Fin 128 → Fin 1024) (g : Fin 256)
    (hf : ∀ d, (f d).val = l.val / 64 * 128 + d.val) (hg : g.val = l.val / 256 * 64 + l.val % 64) :
    headVal (fun d => x0 (ix2 r (f d))) (fun s d => x1 (ix2 s d)) (fun s => x2 (ix2 s g)) (fun s => x2 (ix2 s 128))
      = blockVal x0 x1 x2 r l := by
  rw [show f = fun d => ⟨l.val / 64 * 128 + d.val, by omega⟩ from funext fun d => Fin.ext (hf d),
    show g = ⟨l.val / 256 * 64 + l.val % 64, by omega⟩ from Fin.ext hg]
  rfl

/-- The first two heads, lanes `0` to `127`. -/
theorem piece0 (r : Fin 512) (l : Fin 128) :
    k0_pay17 (k0_pay21 x0 x1 x2) (k0_pay4 (View.ld x1 r0_0) (View.ld x2 r0_1) (View.ld x0 r0_2)) (k0_pay8 (k0_pay6 (View.ld x1 r0_0) (View.ld x2 r0_1) (View.ld x0 r0_3)) (k0_pay7 (View.ld x1 r0_0) (View.ld x2 r0_1) (View.ld x0 r0_3))) (ix2 r l)
      = blockVal x0 x1 x2 r ⟨0 + l.val, by omega⟩ := by
  pointwise [k0_pay17, k0_pay21, k0_pay4, k0_pay8, k0_pay6, k0_pay7, k0_pay5, k0_pay1, k0_pay2, k0_pay3, r0_0, r0_1, r0_2, r0_3]
  refine (select_low l _ _).trans ?_
  split
  · rename_i h
    exact headVal_eq x0 x1 x2 r _ (fun d => ⟨d.val, by omega⟩) ⟨l.val, by omega⟩
      (fun d => by dsimp only; omega) (by dsimp only; omega)
  · rename_i h
    exact headVal_eq x0 x1 x2 r _ (fun d => ⟨128 + d.val, by omega⟩) ⟨(l.val + 128 - 64) % 128, by omega⟩
      (fun d => by dsimp only; omega) (by dsimp only; omega)

/-- The next two heads, lanes `128` to `255`. -/
theorem piece1 (r : Fin 512) (l : Fin 128) :
    k0_pay18 (k0_pay21 x0 x1 x2) (k0_pay9 (k0_pay22 x0 x1 x2) (k0_pay23 x0 x1 x2) (View.ld x0 r0_4)) (k0_pay10 (k0_pay22 x0 x1 x2) (k0_pay23 x0 x1 x2) (View.ld x0 r0_5)) (ix2 r l)
      = blockVal x0 x1 x2 r ⟨128 + l.val, by omega⟩ := by
  pointwise [k0_pay18, k0_pay21, k0_pay22, k0_pay23, k0_pay9, k0_pay10, k0_pay1, k0_pay2, k0_pay3, r0_0, r0_1, r0_4, r0_5]
  refine (select_low l _ _).trans ?_
  split
  · rename_i h
    exact headVal_eq x0 x1 x2 r _ (fun d => ⟨256 + d.val, by omega⟩) ⟨l.val, by omega⟩
      (fun d => by dsimp only; omega) (by dsimp only; omega)
  · rename_i h
    exact headVal_eq x0 x1 x2 r _ (fun d => ⟨384 + d.val, by omega⟩) ⟨(l.val + 128 - 64) % 128, by omega⟩
      (fun d => by dsimp only; omega) (by dsimp only; omega)

/-- The fifth and sixth heads, lanes `256` to `383`. -/
theorem piece2 (r : Fin 512) (l : Fin 128) :
    k0_pay19 (k0_pay21 x0 x1 x2) (k0_pay12 (k0_pay22 x0 x1 x2) (k0_pay23 x0 x1 x2) (k0_pay11 (View.ld x0 r0_6)) (Idealize.ShloMosaic.constant S512x4096 .f32 0x00000000#32)) (k0_pay13 (k0_pay22 x0 x1 x2) (k0_pay23 x0 x1 x2) (View.ld x0 r0_7)) (ix2 r l)
      = blockVal x0 x1 x2 r ⟨256 + l.val, by omega⟩ := by
  pointwise [k0_pay19, k0_pay21, k0_pay22, k0_pay23, k0_pay12, k0_pay11, k0_pay13, k0_pay1, k0_pay2, k0_pay3, r0_0, r0_1, r0_6, r0_7]
  refine (select_low l _ _).trans ?_
  split
  · rename_i h
    exact headVal_eq x0 x1 x2 r _ (fun d => ⟨512 + d.val, by omega⟩) ⟨(l.val + 128 - 64) % 128, by omega⟩
      (fun d => by dsimp only; omega) (by dsimp only; omega)
  · rename_i h
    exact headVal_eq x0 x1 x2 r _ (fun d => ⟨640 + d.val, by omega⟩) ⟨l.val, by omega⟩
      (fun d => by dsimp only; omega) (by dsimp only; omega)

/-- The last two heads, lanes `384` to `511`. -/
theorem piece3 (r : Fin 512) (l : Fin 128) :
    k0_pay20 (k0_pay21 x0 x1 x2) (k0_pay22 x0 x1 x2) (k0_pay23 x0 x1 x2) (k0_pay15 (k0_pay22 x0 x1 x2) (k0_pay23 x0 x1 x2) (View.ld x0 r0_8)) (k0_pay16 (k0_pay22 x0 x1 x2) (k0_pay23 x0 x1 x2) (View.ld x0 r0_8)) (View.ld x0 r0_9) (ix2 r l)
      = blockVal x0 x1 x2 r ⟨384 + l.val, by omega⟩ := by
  pointwise [k0_pay20, k0_pay21, k0_pay22, k0_pay23, k0_pay14, k0_pay15, k0_pay16, k0_pay1, k0_pay2, k0_pay3, r0_0, r0_1, r0_8, r0_9]
  refine (select_low l _ _).trans ?_
  split
  · rename_i h
    exact headVal_eq x0 x1 x2 r _ (fun d => ⟨768 + d.val, by omega⟩) ⟨(l.val + 128 - 64) % 128, by omega⟩
      (fun d => by dsimp only; omega) (by dsimp only; omega)
  · rename_i h
    exact headVal_eq x0 x1 x2 r _ (fun d => ⟨896 + d.val, by omega⟩) ⟨l.val, by omega⟩
      (fun d => by dsimp only; omega) (by dsimp only; omega)

/-- THE BLOCK: every lane of every row. -/
theorem out_eq (y : S512x512.Idx) :
    out0_3 x0 x1 x2 y = blockVal x0 x1 x2 (y 0) (y 1) := by
  have key : ∀ (o : ℕ) (ho : ∀ l : Fin 128, o + l.val < 512) (z : S512x512.Idx) (r : Fin 512) (l : Fin 128),
      (z 0).val = r.val → (z 1).val = o + l.val →
      blockVal x0 x1 x2 r ⟨o + l.val, ho l⟩ = blockVal x0 x1 x2 (z 0) (z 1) := fun o ho z r l h0 h1 => by
    rw [show (z 0 : Fin 512) = r from Fin.ext h0, show (z 1 : Fin 512) = ⟨o + l.val, ho l⟩ from Fin.ext h1]
    rfl
  unfold out0_3
  refine View.canon_apply_of_pieces (Val := Elt Ideal) (S := S512x512) (e := .bf16)
    (fun y => blockVal x0 x1 x2 (y 0) (y 1)) _ ?_ y (cover0_3 _ _ _ _ y)
  intro p hp
  simp only [List.mem_cons, List.not_mem_nil, or_false] at hp
  rcases hp with rfl | rfl | rfl | rfl
  · intro x
    obtain ⟨r, l, rfl⟩ : ∃ (r : Fin 512) (l : Fin 128), x = ix2 r l := ⟨x 0, x 1, by idx_vars x⟩
    exact (piece3 x0 x1 x2 r l).trans (key 384 (fun l => by omega) _ r l (by simp [r0_13]) (by simp [r0_13]))
  · intro x
    obtain ⟨r, l, rfl⟩ : ∃ (r : Fin 512) (l : Fin 128), x = ix2 r l := ⟨x 0, x 1, by idx_vars x⟩
    exact (piece2 x0 x1 x2 r l).trans (key 256 (fun l => by omega) _ r l (by simp [r0_12]) (by simp [r0_12]))
  · intro x
    obtain ⟨r, l, rfl⟩ : ∃ (r : Fin 512) (l : Fin 128), x = ix2 r l := ⟨x 0, x 1, by idx_vars x⟩
    exact (piece1 x0 x1 x2 r l).trans (key 128 (fun l => by omega) _ r l (by simp [r0_11]) (by simp [r0_11]))
  · intro x
    obtain ⟨r, l, rfl⟩ : ∃ (r : Fin 512) (l : Fin 128), x = ix2 r l := ⟨x 0, x 1, by idx_vars x⟩
    exact (piece0 x0 x1 x2 r l).trans (key 0 (fun l => by omega) _ r l (by simp [r0_10]) (by simp [r0_10]))

end Cert.Attn

end
-- ==== Proof.Attn.Reference.lean ====
/- The reference attention, one element at a time: the softmax of an eighth of the scores applied to the values. -/
module

public import proofs.«01_k».proof.Proof.Gen.ReferenceIdeal.Read
public import proofs.«01_k».proof.Proof.Attn.Softmax

@[expose] public section

set_option maxRecDepth 16384

noncomputable section

namespace Cert.Attn

open Cert.ReferenceIdeal Cert.ReferenceIdeal.Gen Cert.ReferenceIdeal.Read Idealize.ShloMosaic

/-- The greatest entry along the last axis. -/
theorem max_read (y : FVec Ideal S8x2x4x4096x4096 .f32) (b : Fin 8) (h : Fin 2) (g : Fin 4) (t : Fin 4096) :
    Host.reduce FloatOps.maximumf y (val_main_cst_0 (F := Ideal)) reducesTo_S8x2x4x4096x4096_S8x2x4x4096_d4 h_S_ (ix4 b h g t)
      = Finset.univ.fold max (Ideal.ofBits .f32 0xFF800000#32) (fun s => y (ix5 b h g t s)) := by
  pointwise [val_main_cst_0]

/-- A row statistic spread back along the last axis. -/
theorem spread_read (y : FVec Ideal S8x2x4x4096 .f32) (b : Fin 8) (h : Fin 2) (g : Fin 4) (t s : Fin 4096) :
    broadcastInDim S8x2x4x4096x4096 ![0, 1, 2, 3, 4] bcast_S8x2x4x4096x1_S8x2x4x4096x4096_0_1_2_3_4
      (broadcastInDim S8x2x4x4096x1 ![0, 1, 2, 3] bcast_S8x2x4x4096_S8x2x4x4096x1_0_1_2_3 y) (ix5 b h g t s) = y (ix4 b h g t) := by
  pointwise []

variable (q : FVec Ideal S8x4096x512 .f32) (k v : FVec Ideal S8x4096x128 .f32)

theorem scores_read (b : Fin 8) (h : Fin 2) (g : Fin 4) (t s : Fin 4096) :
    val_main_v6 (F := Ideal) q k (ix5 b h g t s)
      = ∑ d : Fin 64, k (ix3 b s ⟨h.val * 64 + d.val, by omega⟩)
          * (q (ix3 b t ⟨h.val * 256 + g.val * 64 + d.val, by omega⟩) * Ideal.ofBits .f32 0x3E000000#32) := by
  pointwise [val_main_v6, val_main_v5, val_main_v3, val_main_v2, val_main_v1, val_main_v0, val_main_cst]

theorem exp_read (b : Fin 8) (h : Fin 2) (g : Fin 4) (t s : Fin 4096) :
    val_main_v13 (F := Ideal) q k (ix5 b h g t s)
      = Ideal.exp (val_main_v6 (F := Ideal) q k (ix5 b h g t s) - max (Ideal.ofBits .f32 0xFF800000#32)
          (Finset.univ.fold max (Ideal.ofBits .f32 0xFF800000#32) fun s => val_main_v6 (F := Ideal) q k (ix5 b h g t s))) := by
  have h9 : val_main_v11 (F := Ideal) q k (ix5 b h g t s) = val_main_v9 (F := Ideal) q k (ix4 b h g t) := by
    unfold val_main_v11 val_main_v10
    exact spread_read _ b h g t s
  have h7 : val_main_v7 (F := Ideal) q k (ix4 b h g t) = _ := max_read (val_main_v6 (F := Ideal) q k) b h g t
  rw [val_main_v13_apply, val_main_v12_apply, h9, val_main_v9_apply, h7, val_main_v8_apply, val_main_cst_1_apply]
  rfl

theorem soft_read (b : Fin 8) (h : Fin 2) (g : Fin 4) (t s : Fin 4096) :
    val_main_v17 (F := Ideal) q k (ix5 b h g t s)
      = Ideal.div (val_main_v13 (F := Ideal) q k (ix5 b h g t s)) (∑ s, val_main_v13 (F := Ideal) q k (ix5 b h g t s)) := by
  unfold val_main_v17 val_main_v16 val_main_v15 val_main_v14
  generalize val_main_v13 (F := Ideal) q k = y
  pointwise [val_main_cst_2]

theorem result_read (a : Fin 32768) (l : Fin 512) :
    val_main_v21 (F := Ideal) q k v (ix2 a l)
      = ∑ s : Fin 4096, v (ix3 ⟨a.val / 4096, by omega⟩ s ⟨l.val / 256 * 64 + l.val % 64, by omega⟩)
          * val_main_v17 (F := Ideal) q k (ix5 ⟨a.val / 4096, by omega⟩ ⟨l.val / 256, by omega⟩ ⟨l.val / 64 % 4, by omega⟩
              ⟨a.val % 4096, by omega⟩ s) := by
  pointwise [val_main_v21, val_main_v20, val_main_v19, val_main_v18, val_main_v4]

/-- The real score of query row `a`, head `l / 64`, against key row `s`. -/
def rscore (qr : S8x4096x512.Idx → ℝ) (kr : S8x4096x128.Idx → ℝ) (a : Fin 32768) (l : Fin 512) (s : Fin 4096) : ℝ :=
  ∑ d : Fin 64, qr (ix3 ⟨a.val / 4096, by omega⟩ ⟨a.val % 4096, by omega⟩ ⟨l.val / 64 * 64 + d.val, by omega⟩)
    * kr (ix3 ⟨a.val / 4096, by omega⟩ s ⟨l.val / 256 * 64 + d.val, by omega⟩)

/-- The attention at row `a` and lane `l`, from real scores. -/
def attn (qr : S8x4096x512.Idx → ℝ) (kr : S8x4096x128.Idx → ℝ) (v : S8x4096x128.Idx → EReal) (a : Fin 32768) (l : Fin 512) : EReal :=
  ∑ s : Fin 4096, v (ix3 ⟨a.val / 4096, by omega⟩ s ⟨l.val / 256 * 64 + l.val % 64, by omega⟩) * Ideal.div
    (Ideal.exp (((rscore qr kr a l s * (1 / 8) : ℝ) : EReal) -
      max ⊥ (Finset.univ.fold max ⊥ fun s => ((rscore qr kr a l s * (1 / 8) : ℝ) : EReal))))
    (∑ s, Ideal.exp (((rscore qr kr a l s * (1 / 8) : ℝ) : EReal) -
      max ⊥ (Finset.univ.fold max ⊥ fun s => ((rscore qr kr a l s * (1 / 8) : ℝ) : EReal))))

/-- The reference's element when queries and keys are real. -/
theorem result_eq (qr : S8x4096x512.Idx → ℝ) (kr : S8x4096x128.Idx → ℝ) (a : Fin 32768) (l : Fin 512) :
    val_main_v21 (F := Ideal) (fun i => ((qr i : ℝ) : EReal)) (fun i => ((kr i : ℝ) : EReal)) v (ix2 a l) = attn qr kr v a l := by
  have hs : ∀ s, val_main_v6 (F := Ideal) (fun i => ((qr i : ℝ) : EReal)) (fun i => ((kr i : ℝ) : EReal))
      (ix5 ⟨a.val / 4096, by omega⟩ ⟨l.val / 256, by omega⟩ ⟨l.val / 64 % 4, by omega⟩ ⟨a.val % 4096, by omega⟩ s)
      = ((rscore qr kr a l s * (1 / 8) : ℝ) : EReal) := fun s => by
    rw [scores_read, word_eighth, rscore, Finset.sum_mul, coe_sum]
    refine Finset.sum_congr rfl fun d _ => ?_
    rw [← EReal.coe_mul, ← EReal.coe_mul]
    congr 1
    have e : (⟨l.val / 256 * 256 + l.val / 64 % 4 * 64 + d.val, by omega⟩ : Fin 512) = ⟨l.val / 64 * 64 + d.val, by omega⟩ :=
      Fin.ext (by show l.val / 256 * 256 + l.val / 64 % 4 * 64 + d.val = l.val / 64 * 64 + d.val; omega)
    simp only [e]
    ring
  rw [result_read]
  simp only [soft_read, exp_read, hs, word_neg_inf]
  rfl

end Cert.Attn

end
-- ==== Proof.Attn.Host.lean ====
/- The three arrays the attention kernel reads, laid out by the host: the queries' heads padded to 128 lanes on the side of
   their key head, the keys as rows, the values followed by a half of ones. With real queries and keys a padded score is
   the head's score, scaled. -/
module

public import proofs.«01_k».proof.Proof.Attn.Block
public import proofs.«01_k».proof.Proof.Attn.Reference
public import Idealize.ShloMosaic.Lib.StableHlo.ReadAt

@[expose] public section

set_option maxRecDepth 16384

noncomputable section

namespace Cert.Attn

open Cert.KernelIdeal Cert.KernelIdeal.Gen Idealize.ShloMosaic Idealize.ShloMosaic.TcCoe Idealize.SL.Sem
  Idealize.ShloMosaic.StableHlo

variable (m : (ℓ : Loc nD τ sig) → Buf (Elt Ideal) ℓ)

/-- The queries. -/
abbrev qA (c : Dev nD) : S8x4096x512.Idx → EReal := m (c, Proc.tc.devRef main_arg0)
/-- The keys. -/
abbrev kA (c : Dev nD) : S8x4096x128.Idx → EReal := m (c, Proc.tc.devRef main_arg1)
/-- The values. -/
abbrev vA (c : Dev nD) : S8x4096x128.Idx → EReal := m (c, Proc.tc.devRef main_arg2)

/-- A padded query lane: head `e / 128`, lane `e % 128`. -/
def qpad (q : S8x4096x512.Idx → EReal) (a : Fin 32768) (e : Fin 1024) : EReal :=
  if h : e.val / 512 * 64 ≤ e.val % 128 ∧ e.val % 128 < e.val / 512 * 64 + 64 then
    q (ix3 ⟨a.val / 4096, by omega⟩ ⟨a.val % 4096, by omega⟩ ⟨e.val / 128 * 64 + (e.val % 128 - e.val / 512 * 64), by omega⟩)
  else 0

/-- Triples that agree in the last coordinate's value. -/
theorem ix3_last {a b n : ℕ} (i : Fin a) (j : Fin b) (k k' : Fin n) (h : k.val = k'.val) : ix3 i j k = ix3 i j k' := by
  rw [Fin.ext h]

theorem qpad_pos (q : S8x4096x512.Idx → EReal) (a : Fin 32768) (e : Fin 1024) (k : Fin 512)
    (h : e.val / 512 * 64 ≤ e.val % 128 ∧ e.val % 128 < e.val / 512 * 64 + 64)
    (hk : e.val / 128 * 64 + (e.val % 128 - e.val / 512 * 64) = k.val) :
    q (ix3 ⟨a.val / 4096, by omega⟩ ⟨a.val % 4096, by omega⟩ k) = qpad q a e := by
  unfold qpad
  rw [dif_pos h]
  exact congrArg q (ix3_last _ _ _ _ hk.symm)

theorem qpad_neg (q : S8x4096x512.Idx → EReal) (a : Fin 32768) (e : Fin 1024)
    (h : ¬(e.val / 512 * 64 ≤ e.val % 128 ∧ e.val % 128 < e.val / 512 * 64 + 64)) : 0 = qpad q a e := by
  unfold qpad
  rw [dif_neg h]

theorem word_zero_int : (FloatOps.sitofp .f32 (0#32 : BitVec 32) : Ideal .f32) = (0 : EReal) := by
  show ((((0#32 : BitVec 32).toInt : ℝ)) : EReal) = 0
  simp

theorem queries_read (c : Dev nD) (a : Fin 32768) (e : Fin 1024) :
    (V m c main_v7) (ix2 a e) = qpad (qA m c) a e := by
  unfold V
  after_reads_at
  split
  · rename_i h4
    after_reads_at
    by_cases h : e.val / 128 < 4 ∧ e.val % 128 < 64
    · have h' : e.val / 512 * 64 ≤ e.val % 128 ∧ e.val % 128 < e.val / 512 * 64 + 64 := by omega
      exact (dif_pos h).trans (qpad_pos (qA m c) a e _ h' (by dsimp only; omega))
    · have h' : ¬(e.val / 512 * 64 ≤ e.val % 128 ∧ e.val % 128 < e.val / 512 * 64 + 64) := by omega
      exact (dif_neg h).trans (word_zero_int.trans (qpad_neg (qA m c) a e h'))
  · rename_i h4
    after_reads_at
    by_cases h : e.val / 128 - 4 < 4 ∧ 64 ≤ e.val % 128 ∧ e.val % 128 - 64 < 64
    · have h' : e.val / 512 * 64 ≤ e.val % 128 ∧ e.val % 128 < e.val / 512 * 64 + 64 := by omega
      exact (dif_pos h).trans (qpad_pos (qA m c) a e _ h' (by dsimp only; omega))
    · have h' : ¬(e.val / 512 * 64 ≤ e.val % 128 ∧ e.val % 128 < e.val / 512 * 64 + 64) := by omega
      exact (dif_neg h).trans (word_zero_int.trans (qpad_neg (qA m c) a e h'))

theorem keys_read (c : Dev nD) (a : Fin 32768) (d : Fin 128) :
    (V m c main_v13) (ix2 a d) = kA m c (ix3 ⟨a.val / 4096, by omega⟩ ⟨a.val % 4096, by omega⟩ d) := by
  unfold V
  after_reads_at

theorem values_read (c : Dev nD) (a : Fin 32768) (d : Fin 256) (h : d.val < 128) :
    (V m c main_v11) (ix2 a d) = vA m c (ix3 ⟨a.val / 4096, by omega⟩ ⟨a.val % 4096, by omega⟩ ⟨d.val, h⟩) := by
  unfold V
  after_reads_at
  rw [dif_pos h]
  after_reads_at

theorem ones_read (c : Dev nD) (a : Fin 32768) :
    (V m c main_v11) (ix2 a 128) = (FloatOps.ofBits (F := Ideal) .f32 0x3F800000#32 : Ideal .f32) := by
  unfold V
  after_reads_at
  after_reads_at

/-- A sum over 128 lanes of which only the 64 from `h * 64` on count. -/
theorem sum_half (h : Fin 2) (f : Fin 128 → EReal) (g : Fin 64 → EReal)
    (hin : ∀ d : Fin 64, f ⟨h.val * 64 + d.val, by omega⟩ = g d)
    (hout : ∀ d : Fin 128, ¬(h.val * 64 ≤ d.val ∧ d.val < h.val * 64 + 64) → f d = 0) : ∑ d, f d = ∑ d, g d := by
  have e := Fin.sum_univ_add (a := 64) (b := 64) f
  by_cases h0 : h.val = 0
  · have z : ∑ d : Fin 64, f (Fin.natAdd 64 d) = 0 := Finset.sum_eq_zero fun d _ =>
      hout (Fin.natAdd 64 d) (by show ¬(_ ≤ 64 + d.val ∧ 64 + d.val < _); omega)
    refine e.trans ?_
    rw [z, add_zero]
    refine Finset.sum_congr rfl fun d _ => ?_
    rw [← hin d]
    exact congrArg f (Fin.ext (by show d.val = h.val * 64 + d.val; omega))
  · have z : ∑ d : Fin 64, f (Fin.castAdd 64 d) = 0 := Finset.sum_eq_zero fun d _ =>
      hout (Fin.castAdd 64 d) (by show ¬(_ ≤ d.val ∧ d.val < _); omega)
    refine e.trans ?_
    rw [z, zero_add]
    refine Finset.sum_congr rfl fun d _ => ?_
    rw [← hin d]
    exact congrArg f (Fin.ext (by show 64 + d.val = h.val * 64 + d.val; omega))

/-- Where a head's own lane lies among the padded ones. -/
theorem lane_nat (l d : ℕ) (hl : l < 512) (hd : d < 64) :
    (l / 64 * 128 + (l / 256 * 64 + d)) / 128 = l / 64 ∧ (l / 64 * 128 + (l / 256 * 64 + d)) % 128 = l / 256 * 64 + d
      ∧ (l / 64 * 128 + (l / 256 * 64 + d)) / 512 = l / 256 := by
  have h1 : l / 256 = l / 64 / 4 := by omega
  have h2 : l / 64 < 8 := by omega
  rw [h1]
  generalize l / 64 = n at h2 ⊢
  omega

/-- The kernel's attention at row `a` and lane `l`, from the argument arrays. -/
def arrayVal (q : S8x4096x512.Idx → EReal) (k v : S8x4096x128.Idx → EReal) (a : Fin 32768) (l : Fin 512) : EReal :=
  headVal (fun d => qpad q a ⟨l.val / 64 * 128 + d.val, by omega⟩) (fun s d => k (ix3 ⟨a.val / 4096, by omega⟩ s d))
    (fun s => v (ix3 ⟨a.val / 4096, by omega⟩ s ⟨l.val / 256 * 64 + l.val % 64, by omega⟩)) (fun _ => 1)

theorem score_eq (qr : S8x4096x512.Idx → ℝ) (kr : S8x4096x128.Idx → ℝ) (a : Fin 32768) (l : Fin 512) (s : Fin 4096) :
    score (fun d => qpad (fun i => ((qr i : ℝ) : EReal)) a ⟨l.val / 64 * 128 + d.val, by omega⟩)
      (fun s d => ((kr (ix3 ⟨a.val / 4096, by omega⟩ s d) : ℝ) : EReal)) s
      = ((rscore qr kr a l s * (Real.log 256)⁻¹ : ℝ) : EReal) := by
  unfold score rscore
  rw [IdealRules.named_const.ideal_named_scalar _ _ _ _ rfl, Finset.sum_mul, coe_sum]
  refine sum_half ⟨l.val / 256, by omega⟩ _ _ (fun d => ?_) (fun d hd => ?_)
  · obtain ⟨e1, e2, e3⟩ := lane_nat l.val d.val l.isLt d.isLt
    dsimp only
    rw [← qpad_pos (fun i => ((qr i : ℝ) : EReal)) a _ ⟨l.val / 64 * 64 + d.val, by omega⟩
      (by dsimp only; rw [e2, e3]; omega) (by dsimp only; rw [e1, e2, e3]; omega), ← EReal.coe_mul, ← EReal.coe_mul]
    congr 1
    ring
  · dsimp only at hd ⊢
    rw [← qpad_neg (fun i => ((qr i : ℝ) : EReal)) a _ (by dsimp only; omega), zero_mul, zero_mul]

theorem arrayVal_eq (qr : S8x4096x512.Idx → ℝ) (kr : S8x4096x128.Idx → ℝ) (v : S8x4096x128.Idx → EReal)
    (a : Fin 32768) (l : Fin 512) :
    arrayVal (fun i => ((qr i : ℝ) : EReal)) (fun i => ((kr i : ℝ) : EReal)) v a l = attn qr kr v a l := by
  have hw : ∀ s, weight (fun d => qpad (fun i => ((qr i : ℝ) : EReal)) a ⟨l.val / 64 * 128 + d.val, by omega⟩)
      (fun s d => ((kr (ix3 ⟨a.val / 4096, by omega⟩ s d) : ℝ) : EReal)) s
      = Ideal.exp2 (((rscore qr kr a l s * (Real.log 256)⁻¹ : ℝ) : EReal) -
        Finset.univ.fold max ⊥ (fun s => ((rscore qr kr a l s * (Real.log 256)⁻¹ : ℝ) : EReal))) := fun s => by
    unfold weight
    rw [word_neg_inf, score_eq, show score _ _ = _ from funext (score_eq qr kr a l)]
  unfold arrayVal headVal
  simp only [hw]
  exact row_eq (by norm_num) (rscore qr kr a l) _

end Cert.Attn

end
-- ==== Proof.Attn.Value.lean ====
/- The attention kernel's result array and the claims about it: every block written back is the block of one function of
   the arguments, the blocks cover the array, and with real queries and keys the function is the reference's. -/
module

public import proofs.«01_k».proof.Defs
public import proofs.«01_k».proof.Proof.Gen.ReferenceIdeal.Run
public import proofs.«01_k».proof.Proof.Gen.Pre_finite_scores
public import proofs.«01_k».proof.Proof.Attn.Host
public import Idealize.ShloMosaic.Lib.Pipeline.ValueKit
public import Idealize.ShloMosaic.Lib.Quiescent

@[expose] public section

set_option maxRecDepth 16384

noncomputable section

namespace Cert.Attn

open Cert.KernelIdeal Cert.KernelIdeal.Gen Idealize.ShloMosaic Idealize.ShloMosaic.TcCoe Idealize.SL.Sem
  Idealize.ShloMosaic.StableHlo

variable (m : (ℓ : Loc nD τ sig) → Buf (Elt Ideal) ℓ) (ρ : Dev nD → PrngReg)

/-- Where the four windows' blocks lie at a grid point. -/
theorem index_eq : ∀ t : Fin cfg0.N, win0_0.index t = ![t.val, 0] ∧ win0_1.index t = ![t.val / 8, 0]
    ∧ win0_2.index t = ![t.val / 8, 0] ∧ win0_3.index t = ![t.val, 0] :=
  (by decide +kernel : ∀ t : Fin grid0.N, win0_0.index t = ![t.val, 0] ∧ win0_1.index t = ![t.val / 8, 0]
    ∧ win0_2.index t = ![t.val / 8, 0] ∧ win0_3.index t = ![t.val, 0])

theorem queries_block (c : Dev nD) (t : Fin cfg0.N) (r : Fin 512) (e : Fin 1024) (a : Fin 32768) (ha : a.val = t.val * 512 + r.val) :
    iblk m c 0 t (ix2 r e) = V m c main_v7 (ix2 a e) := by
  blk_ext [iblk, (index_eq t).1]

theorem keys_block (c : Dev nD) (t : Fin cfg0.N) (s : Fin 4096) (d : Fin 128) (a : Fin 32768) (ha : a.val = t.val / 8 * 4096 + s.val) :
    iblk m c 1 t (ix2 s d) = V m c main_v13 (ix2 a d) := by
  blk_ext [iblk, (index_eq t).2.1]

theorem values_block (c : Dev nD) (t : Fin cfg0.N) (s : Fin 4096) (d : Fin 256) (a : Fin 32768) (ha : a.val = t.val / 8 * 4096 + s.val) :
    iblk m c 2 t (ix2 s d) = V m c main_v11 (ix2 a d) := by
  blk_ext [iblk, (index_eq t).2.2.1]

/-- The result array as one function of the arguments. -/
def resultArr (c : Dev nD) : S32768x512.Idx → EReal := fun i => arrayVal (qA m c) (kA m c) (vA m c) (i 0) (i 1)

/-- The word of one. -/
theorem word_one : (FloatOps.ofBits (F := Ideal) .f32 0x3F800000#32 : Ideal .f32) = (1 : EReal) := by
  show Ideal.ofBits .f32 0x3F800000#32 = 1
  simp [Ideal.ofBits, Ideal.ieee, -EReal.coe_mul]; norm_num

/-- An element whose magnitude compares below plus infinity is real. -/
theorem real_of_word {x : EReal} (h : BitVec.ofBool (decide ((FloatOps.absf (F := Ideal) (φ := .f32) x : EReal) <
    Ideal.ofBits .f32 0x7F800000#32)) = 1#1) : ∃ r : ℝ, x = (r : EReal) := by
  by_cases hl : (FloatOps.absf (F := Ideal) (φ := .f32) x : EReal) < Ideal.ofBits .f32 0x7F800000#32
  · rw [word_inf] at hl
    exact real_of_abs_lt hl
  · rw [decide_eq_false hl] at h
    exact absurd h (by decide)

/-- A grid point's block is the block of the whole-array function. -/
theorem block_eq (c : Dev nD) (t : Fin cfg0.N) (r l : Fin 512) (a : Fin 32768) (ha : a.val = t.val * 512 + r.val) :
    blockVal (iblk m c 0 t) (iblk m c 1 t) (iblk m c 2 t) r l = arrayVal (qA m c) (kA m c) (vA m c) a l := by
  have ht : t.val < 64 := t.isLt
  have hb : ∀ s : Fin 4096, t.val / 8 * 4096 + s.val < 32768 := fun s => by omega
  have e3 : ∀ (n : ℕ) (s : Fin 4096) (d : Fin n), ix3 (⟨(t.val / 8 * 4096 + s.val) / 4096, by omega⟩ : Fin 8)
      (⟨(t.val / 8 * 4096 + s.val) % 4096, by omega⟩ : Fin 4096) d = ix3 (⟨a.val / 4096, by omega⟩ : Fin 8) s d := fun n s d => by
    rw [show (⟨(t.val / 8 * 4096 + s.val) / 4096, by omega⟩ : Fin 8) = ⟨a.val / 4096, by omega⟩ from Fin.ext (by dsimp only; omega),
      show (⟨(t.val / 8 * 4096 + s.val) % 4096, by omega⟩ : Fin 4096) = s from Fin.ext (by dsimp only; omega)]
  have hq : ∀ e, iblk m c 0 t (ix2 r e) = qpad (qA m c) a e := fun e =>
    (queries_block m c t r e a ha).trans (queries_read m c a e)
  have hk : ∀ s d, iblk m c 1 t (ix2 s d) = kA m c (ix3 ⟨a.val / 4096, by omega⟩ s d) := fun s d =>
    (keys_block m c t s d ⟨_, hb s⟩ rfl).trans ((keys_read m c _ d).trans (congrArg (kA m c) (e3 128 s d)))
  have hv : ∀ s (d : Fin 256) (h : d.val < 128),
      iblk m c 2 t (ix2 s d) = vA m c (ix3 ⟨a.val / 4096, by omega⟩ s ⟨d.val, h⟩) := fun s d h =>
    (values_block m c t s d ⟨_, hb s⟩ rfl).trans ((values_read m c _ d h).trans (congrArg (vA m c) (e3 128 s ⟨d.val, h⟩)))
  have ho : ∀ s, iblk m c 2 t (ix2 s 128) = (1 : EReal) := fun s =>
    (values_block m c t s 128 ⟨_, hb s⟩ rfl).trans ((ones_read m c _).trans word_one)
  unfold blockVal arrayVal
  simp only [hq, hk, ho]
  congr 1
  exact funext fun s => hv s _ (by dsimp only; omega)

theorem final (c : Dev nD) : (dats m 0 c).arrAt 3 cfg0.N = resultArr m c := by
  refine (dats m 0 c).arrAt_eq_of_covers 3 _ (by decide +kernel) fun t hf y => ?_
  have h0 : (((win0_3.blk t).view.emb y) 0 : ℕ) = t.val * 512 + (y 0).val := by blk_simp [(index_eq t).2.2.2]
  have h1 : (((win0_3.blk t).view.emb y) 1 : ℕ) = (y 1).val := by blk_simp [(index_eq t).2.2.2]
  blk_simp
  rw [after0_3]
  refine (out_eq _ _ _ y).trans ((block_eq m c t (y 0) (y 1) ((win0_3.blk t).view.emb y 0) h0).trans ?_)
  unfold resultArr
  exact congrArg _ (Fin.ext h1.symm)

/-- Under the precondition the queries and the keys are real. -/
theorem real_args (h : Cert.Pre_KernelIdeal_finite_scores m) (c : Dev nD) :
    (∃ qr : S8x4096x512.Idx → ℝ, qA m c = fun i => ((qr i : ℝ) : EReal))
      ∧ ∃ kr : S8x4096x128.Idx → ℝ, kA m c = fun i => ((kr i : ℝ) : EReal) := by
  have hc := h c
  have key : ∀ (b : Fin 8) (t : Fin 4096) (e : Fin 640), Cert.Pre_finite_scores.fn (F := Ideal)
      (m ((c : Thread nD τ).loc main_arg0)) (m ((c : Thread nD τ).loc main_arg1)) (m ((c : Thread nD τ).loc main_arg2)) (ix3 b t e) = 1#1 :=
    fun b t e => congrFun hc (ix3 b t e)
  constructor
  · have hr : ∀ i : S8x4096x512.Idx, ∃ r : ℝ, qA m c i = (r : EReal) := fun i => by
      have := key (i 0) (i 1) ⟨(i 2).val, by have : (i 2).val < 512 := (i 2).isLt; omega⟩
      pointwise [Cert.Pre_finite_scores.fn] at this
      exact real_of_word this
    choose qr hqr using hr
    exact ⟨qr, funext hqr⟩
  · have hr : ∀ i : S8x4096x128.Idx, ∃ r : ℝ, kA m c i = (r : EReal) := fun i => by
      have := key (i 0) (i 1) ⟨512 + (i 2).val, by have : (i 2).val < 128 := (i 2).isLt; omega⟩
      pointwise [Cert.Pre_finite_scores.fn] at this
      exact real_of_word this
    choose kr hkr using hr
    exact ⟨kr, funext hkr⟩

/-- The reference's array. -/
def refArr (m' : (ℓ : Loc Cert.ReferenceIdeal.nD Cert.ReferenceIdeal.τ Cert.ReferenceIdeal.sig) → Buf (Elt Ideal) ℓ)
    (c : Dev Cert.ReferenceIdeal.nD) : Buf (Elt Ideal) ((c : Thread Cert.ReferenceIdeal.nD Cert.ReferenceIdeal.τ).loc Cert.ReferenceIdeal.main_v21) :=
  Cert.ReferenceIdeal.Read.val_main_v21 (F := Ideal) (m' ((c : Thread Cert.ReferenceIdeal.nD Cert.ReferenceIdeal.τ).loc Cert.ReferenceIdeal.main_arg0))
    (m' ((c : Thread Cert.ReferenceIdeal.nD Cert.ReferenceIdeal.τ).loc Cert.ReferenceIdeal.main_arg1))
    (m' ((c : Thread Cert.ReferenceIdeal.nD Cert.ReferenceIdeal.τ).loc Cert.ReferenceIdeal.main_arg2))

theorem result_real (q : S8x4096x512.Idx → EReal) (k v : S8x4096x128.Idx → EReal)
    (hq : ∃ qr : S8x4096x512.Idx → ℝ, q = fun i => ((qr i : ℝ) : EReal))
    (hk : ∃ kr : S8x4096x128.Idx → ℝ, k = fun i => ((kr i : ℝ) : EReal)) :
    (Cert.ReferenceIdeal.Read.val_main_v21 (F := Ideal) q k v : S32768x512.Idx → EReal)
      = fun i => arrayVal q k v (i 0) (i 1) := by
  obtain ⟨qr, rfl⟩ := hq
  obtain ⟨kr, rfl⟩ := hk
  funext i
  obtain ⟨a, l, rfl⟩ : ∃ (a : Fin 32768) (l : Fin 512), i = ix2 a l := ⟨i 0, i 1, by idx_vars i⟩
  exact (result_eq v qr kr a l).trans (arrayVal_eq qr kr v a l).symm

/-- The reference ends with its arguments unchanged; it declares no semaphore. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The named constant's site. -/
theorem preserves : Cert.preserves_Kernel_KernelIdeal :=
  IdealRules.named_const.statement Cert.KernelIdeal.κ "scale" .f32 0x3E38AA3B#32 (((Real.log 256)⁻¹ : ℝ) : EReal) rfl

/-- The attention kernel and the reference end with equal results. -/
theorem algebraic : Cert.algebraic_KernelIdeal_ReferenceIdeal_pre_finite_scores := by
  intro m ρ m' ρ' hpre hag
  refine ⟨fun c => resultArr m c, (θ_run _ _ _).mono (fun _ h c => ⟨(h c).1.trans (final m c), (h c).2⟩)
    (Cert.KernelIdeal.Value.run_blocks m ρ),
    (θ_run _ _ _).mono (fun _ h c => ⟨(h c).1.trans ?_, (h c).2⟩) (Cert.ReferenceIdeal.Value.run m' ρ')⟩
  refine (Cert.ReferenceIdeal.Read.val_main_v21_eq _ _ _).trans ?_
  rw [(hag c).1, (hag c).2.1, (hag c).2.2]
  exact result_real _ _ _ (real_args m hpre c).1 (real_args m hpre c).2

end Cert.Attn

end
-- ==== Proof.lean ====
module

public import proofs.«01_k».proof.Proof.Moe.Reference
public import proofs.«01_k».proof.Proof.Merge.Value
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_scores
public import proofs.«01_k».proof.Proof.Gen.KernelIdeal.Value
public import proofs.«01_k».proof.Proof.Gen.ReferenceIdeal.Run
public import proofs.«01_k».proof.Proof.Gen.ReferenceIdeal.Read
public import proofs.«01_k».proof.Proof.Attn.Value
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Pre_finite_rule
public import proofs.«01_k».proof.Proof.Gen.Kernel3Ideal.Value
public import proofs.«01_k».proof.Proof.Gen.Reference3Ideal.Run
public import proofs.«01_k».proof.Proof.Gen.Reference3Ideal.Read
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Pre_finite_scores.Gen.facts, Cert.Pre_experts_in_range.Gen.facts, Cert.Pre_finite_rule.Gen.facts,
  fun m ρ _ => Cert.Kernel.Gen.frame m ρ,
  fun m ρ _ => Cert.KernelIdeal.Gen.frame m ρ,
  fun m ρ _ => Cert.KernelIdeal.Gen.frame m ρ,
  Cert.Attn.frame_reference,
  fun m ρ _ => Cert.Attn.frame_reference m ρ trivial,
  Cert.Moe.frame_kernel,
  Cert.Moe.frame_ideal,
  fun m ρ _ => Cert.Moe.frame_ideal m ρ trivial,
  Cert.Moe.frame_reference,
  fun m ρ _ => Cert.Moe.frame_reference m ρ trivial,
  fun m ρ _ => Cert.Kernel3.Gen.frame m ρ,
  fun m ρ _ => Cert.Kernel3Ideal.Gen.frame m ρ,
  fun m ρ _ => Cert.Kernel3Ideal.Gen.frame m ρ,
  Cert.Merge.frame_reference,
  fun m ρ _ => Cert.Merge.frame_reference m ρ trivial,
  Cert.Attn.preserves,
  Cert.Attn.algebraic,
  trivial,
  Cert.Moe.algebraic,
  trivial,
  Cert.Merge.algebraic⟩

end Cert.Proof

end
